-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S1000000x16 : Shape := ⟨2, ![1000000, 16]⟩
abbrev S100000x16 : Shape := ⟨2, ![100000, 16]⟩
abbrev S128x32 : Shape := ⟨2, ![128, 32]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : FVec F S1000000x16 .f32) (main_arg3 : FVec F S100000x16 .f32) (main_arg4 : FVec F S128x32 .f32) (main_arg5 : FVec F S128 .f32) (main_arg6 : FVec F S64x128 .f32) (main_arg7 : FVec F S64 .f32) (main_arg8 : FVec F S1x64 .f32) (main_arg9 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S16384 32 := broadcastInDim S16384 ![] bcast_S_S16384 main_c_2
  let main_v7 : IVec S16384 1 := cmpi .sge main_arg1 main_v6
  let main_c_3 : IVec S_ 32 := constantI S_ 32 100000#32
  let main_v8 : IVec S16384 32 := broadcastInDim S16384 ![] bcast_S_S16384 main_c_3
  let main_v9 : IVec S16384 1 := cmpi .slt main_arg1 main_v8
  let main_v10 : IVec S16384 1 := andi main_v7 main_v9
  let main_c_4 : IVec S_ 1 := constantI S_ 1 1#1
  let main_v11 : IVec S_ 1 := (fun x v => Host.reduce IntOp.andi x v reducesTo_S16384_S_d0 h_S_) main_v10 main_c_4
  let main_v12 : IVec S_ 1 := andi main_v5 main_v11
  main_v12
-- ==== Kernel.lean ====
abbrev S16384 : Shape := ⟨1, ![16384]⟩
abbrev S1000000x16 : Shape := ⟨2, ![1000000, 16]⟩
abbrev S100000x16 : Shape := ⟨2, ![100000, 16]⟩
abbrev S128x32 : Shape := ⟨2, ![128, 32]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩
abbrev S16384x1 : Shape := ⟨2, ![16384, 1]⟩
abbrev S128x128 : Shape := ⟨2, ![128, 128]⟩
abbrev S16x1000000 : Shape := ⟨2, ![16, 1000000]⟩
abbrev S125952x128 : Shape := ⟨2, ![125952, 128]⟩
abbrev S16x8192 : Shape := ⟨2, ![16, 8192]⟩
abbrev S1024x128 : Shape := ⟨2, ![1024, 128]⟩
abbrev S128x1024 : Shape := ⟨2, ![128, 1024]⟩
abbrev S128x16 : Shape := ⟨2, ![128, 16]⟩
abbrev S16x1024 : Shape := ⟨2, ![16, 1024]⟩
abbrev S16x100000 : Shape := ⟨2, ![16, 100000]⟩
abbrev S13312x128 : Shape := ⟨2, ![13312, 128]⟩
abbrev S16384x128 : Shape := ⟨2, ![16384, 128]⟩
abbrev S512 : Shape := ⟨1, ![512]⟩
abbrev S512x128 : Shape := ⟨2, ![512, 128]⟩
abbrev S16x128 : Shape := ⟨2, ![16, 128]⟩
abbrev S1x16x1x128 : Shape := ⟨4, ![1, 16, 1, 128]⟩
abbrev S8x16x1x128 : Shape := ⟨4, ![8, 16, 1, 128]⟩
abbrev S128x64 : Shape := ⟨2, ![128, 64]⟩
abbrev S64x1 : Shape := ⟨2, ![64, 1]⟩
abbrev S1x128 : Shape := ⟨2, ![1, 128]⟩
abbrev S1x1 : Shape := ⟨2, ![1, 1]⟩
abbrev S4096x128 : Shape := ⟨2, ![4096, 128]⟩
abbrev S4096x1 : Shape := ⟨2, ![4096, 1]⟩
abbrev S4096x64 : Shape := ⟨2, ![4096, 64]⟩

abbrev nBuf : Table → Nat
  | .hbm => 209
  | .local .tc .vmem => 27
  | .local .scVector .vmem => 2
  | _ => 0

abbrev hbmTy0_0 (i : Nat) : BufTy := match i % 128 with
  | 0 => ⟨S16384, .i32⟩
  | 1 => ⟨S16384, .i32⟩
  | 2 => ⟨S1000000x16, .f32⟩
  | 3 => ⟨S100000x16, .f32⟩
  | 4 => ⟨S128x32, .f32⟩
  | 5 => ⟨S128, .f32⟩
  | 6 => ⟨S64x128, .f32⟩
  | 7 => ⟨S64, .f32⟩
  | 8 => ⟨S1x64, .f32⟩
  | 9 => ⟨S1, .f32⟩
  | 10 => ⟨S_, .i32⟩
  | 11 => ⟨S_, .i32⟩
  | 12 => ⟨S16384, .i32⟩
  | 13 => ⟨S16384, .i32⟩
  | 14 => ⟨S16384, .i32⟩
  | 15 => ⟨S_, .i32⟩
  | 16 => ⟨S16384, .i32⟩
  | 17 => ⟨S16384, .i1⟩
  | 18 => ⟨S16384, .i32⟩
  | 19 => ⟨S16384, .i32⟩
  | 20 => ⟨S_, .i32⟩
  | 21 => ⟨S16384, .i32⟩
  | 22 => ⟨S16384, .i1⟩
  | 23 => ⟨S16384, .i1⟩
  | 24 => ⟨S_, .i32⟩
  | 25 => ⟨S16384, .i32⟩
  | 26 => ⟨S16384, .i32⟩
  | 27 => ⟨S16384, .i32⟩
  | 28 => ⟨S_, .i32⟩
  | 29 => ⟨S16384, .i32⟩
  | 30 => ⟨S16384, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S16384, .i32⟩
  | 38 => ⟨S16384, .i32⟩
  | 39 => ⟨S_, .i32⟩
  | 40 => ⟨S16384, .i32⟩
  | 41 => ⟨S16384, .i1⟩
  | 42 => ⟨S_, .i32⟩
  | 43 => ⟨S16384, .i32⟩
  | 44 => ⟨S16384, .i1⟩
  | 45 => ⟨S_, .i32⟩
  | 46 => ⟨S_, .i1⟩
  | 47 => ⟨S16384, .i1⟩
  | 48 => ⟨S16384, .i1⟩
  | 49 => ⟨S16384, .i1⟩
  | 50 => ⟨S16384, .i32⟩
  | 51 => ⟨S16384, .i32⟩
  | 52 => ⟨S16384, .i32⟩
  | 53 => ⟨S16384, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S16384, .i32⟩
  | 61 => ⟨S16384, .i32⟩
  | 62 => ⟨S_, .i32⟩
  | 63 => ⟨S16384, .i32⟩
  | 64 => ⟨S16384, .i1⟩
  | 65 => ⟨S_, .i32⟩
  | 66 => ⟨S16384, .i32⟩
  | 67 => ⟨S16384, .i1⟩
  | 68 => ⟨S_, .i32⟩
  | 69 => ⟨S_, .i1⟩
  | 70 => ⟨S16384, .i1⟩
  | 71 => ⟨S16384, .i1⟩
  | 72 => ⟨S16384, .i1⟩
  | 73 => ⟨S16384, .i32⟩
  | 74 => ⟨S16384, .i32⟩
  | 75 => ⟨S16384, .i32⟩
  | 76 => ⟨S_, .i32⟩
  | 77 => ⟨S_, .i32⟩
  | 78 => ⟨S16384, .i32⟩
  | 79 => ⟨S16384, .i32⟩
  | 80 => ⟨S16384, .i32⟩
  | 81 => ⟨S_, .i32⟩
  | 82 => ⟨S16384, .i32⟩
  | 83 => ⟨S16384, .i1⟩
  | 84 => ⟨S16384, .i32⟩
  | 85 => ⟨S16384, .i32⟩
  | 86 => ⟨S_, .i32⟩
  | 87 => ⟨S16384, .i32⟩
  | 88 => ⟨S16384, .i1⟩
  | 89 => ⟨S16384, .i1⟩
  | 90 => ⟨S_, .i32⟩
  | 91 => ⟨S16384, .i32⟩
  | 92 => ⟨S16384, .i32⟩
  | 93 => ⟨S16384, .i32⟩
  | 94 => ⟨S16384x1, .i32⟩
  | 95 => ⟨S_, .i32⟩
  | 96 => ⟨S_, .i32⟩
  | 97 => ⟨S16384, .i32⟩
  | 98 => ⟨S16384, .i32⟩
  | 99 => ⟨S16384, .i32⟩
  | 100 => ⟨S_, .i32⟩
  | 101 => ⟨S16384, .i32⟩
  | 102 => ⟨S16384, .i1⟩
  | 103 => ⟨S16384, .i32⟩
  | 104 => ⟨S16384, .i32⟩
  | 105 => ⟨S_, .i32⟩
  | 106 => ⟨S16384, .i32⟩
  | 107 => ⟨S16384, .i1⟩
  | 108 => ⟨S16384, .i1⟩
  | 109 => ⟨S_, .i32⟩
  | 110 => ⟨S16384, .i32⟩
  | 111 => ⟨S16384, .i32⟩
  | 112 => ⟨S16384, .i32⟩
  | 113 => ⟨S_, .i32⟩
  | 114 => ⟨S16384, .i32⟩
  | 115 => ⟨S16384, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S16384, .i32⟩
  | 123 => ⟨S16384, .i32⟩
  | 124 => ⟨S_, .i32⟩
  | 125 => ⟨S16384, .i32⟩
  | 126 => ⟨S16384, .i1⟩
  | 127 => ⟨S_, .i32⟩
  | _ => ⟨S16384, .i32⟩

abbrev hbmTy0_1 (i : Nat) : BufTy := match i % 128 with
  | 0 => ⟨S16384, .i32⟩
  | 1 => ⟨S16384, .i1⟩
  | 2 => ⟨S_, .i32⟩
  | 3 => ⟨S_, .i1⟩
  | 4 => ⟨S16384, .i1⟩
  | 5 => ⟨S16384, .i1⟩
  | 6 => ⟨S16384, .i1⟩
  | 7 => ⟨S16384, .i32⟩
  | 8 => ⟨S16384, .i32⟩
  | 9 => ⟨S16384, .i32⟩
  | 10 => ⟨S16384, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S16384, .i32⟩
  | 18 => ⟨S16384, .i32⟩
  | 19 => ⟨S_, .i32⟩
  | 20 => ⟨S16384, .i32⟩
  | 21 => ⟨S16384, .i1⟩
  | 22 => ⟨S_, .i32⟩
  | 23 => ⟨S16384, .i32⟩
  | 24 => ⟨S16384, .i1⟩
  | 25 => ⟨S_, .i32⟩
  | 26 => ⟨S_, .i1⟩
  | 27 => ⟨S16384, .i1⟩
  | 28 => ⟨S16384, .i1⟩
  | 29 => ⟨S16384, .i1⟩
  | 30 => ⟨S16384, .i32⟩
  | 31 => ⟨S16384, .i32⟩
  | 32 => ⟨S16384, .i32⟩
  | 33 => ⟨S_, .i32⟩
  | 34 => ⟨S_, .i32⟩
  | 35 => ⟨S16384, .i32⟩
  | 36 => ⟨S16384, .i32⟩
  | 37 => ⟨S16384, .i32⟩
  | 38 => ⟨S_, .i32⟩
  | 39 => ⟨S16384, .i32⟩
  | 40 => ⟨S16384, .i1⟩
  | 41 => ⟨S16384, .i32⟩
  | 42 => ⟨S16384, .i32⟩
  | 43 => ⟨S_, .i32⟩
  | 44 => ⟨S16384, .i32⟩
  | 45 => ⟨S16384, .i1⟩
  | 46 => ⟨S16384, .i1⟩
  | 47 => ⟨S_, .i32⟩
  | 48 => ⟨S16384, .i32⟩
  | 49 => ⟨S16384, .i32⟩
  | 50 => ⟨S16384, .i32⟩
  | 51 => ⟨S16384x1, .i32⟩
  | 52 => ⟨S128x128, .i32⟩
  | 53 => ⟨S128x128, .i32⟩
  | 54 => ⟨S_, .i32⟩
  | 55 => ⟨S128x128, .i32⟩
  | 56 => ⟨S128x128, .i32⟩
  | 57 => ⟨S128x128, .i1⟩
  | 58 => ⟨S128x128, .f32⟩
  | 59 => ⟨S16x1000000, .f32⟩
  | 60 => ⟨S125952x128, .f32⟩
  | 61 => ⟨S16x100000, .f32⟩
  | 62 => ⟨S13312x128, .f32⟩
  | 63 => ⟨S16384x128, .f32⟩
  | 64 => ⟨S16384x128, .f32⟩
  | 65 => ⟨S128x16, .f32⟩
  | 66 => ⟨S16x128, .f32⟩
  | 67 => ⟨S1x16x1x128, .f32⟩
  | 68 => ⟨S8x16x1x128, .f32⟩
  | 69 => ⟨S128x128, .f32⟩
  | 70 => ⟨S128x16, .f32⟩
  | 71 => ⟨S16x128, .f32⟩
  | 72 => ⟨S1x16x1x128, .f32⟩
  | 73 => ⟨S8x16x1x128, .f32⟩
  | 74 => ⟨S128x128, .f32⟩
  | 75 => ⟨S128x64, .f32⟩
  | 76 => ⟨S64x1, .f32⟩
  | 77 => ⟨S1x128, .f32⟩
  | 78 => ⟨S1x64, .f32⟩
  | 79 => ⟨S1x1, .f32⟩
  | 80 => ⟨S16384x1, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (nBuf tb) → BufTy
  | .hbm, ⟨i, _⟩ => hbmTy i
  | .local .tc .vmem, ⟨0, _⟩ => ⟨S16x8192, .f32⟩
  | .local .tc .vmem, ⟨1, _⟩ => ⟨S16x8192, .f32⟩
  | .local .tc .vmem, ⟨2, _⟩ => ⟨S128x128, .f32⟩
  | .local .tc .vmem, ⟨3, _⟩ => ⟨S1024x128, .f32⟩
  | .local .tc .vmem, ⟨4, _⟩ => ⟨S1024x128, .f32⟩
  | .local .tc .vmem, ⟨5, _⟩ => ⟨S16x8192, .f32⟩
  | .local .tc .vmem, ⟨6, _⟩ => ⟨S16x8192, .f32⟩
  | .local .tc .vmem, ⟨7, _⟩ => ⟨S128x128, .f32⟩
  | .local .tc .vmem, ⟨8, _⟩ => ⟨S1024x128, .f32⟩
  | .local .tc .vmem, ⟨9, _⟩ => ⟨S1024x128, .f32⟩
  | .local .tc .vmem, ⟨10, _⟩ => ⟨S4096x128, .f32⟩
  | .local .tc .vmem, ⟨11, _⟩ => ⟨S4096x128, .f32⟩
  | .local .tc .vmem, ⟨12, _⟩ => ⟨S4096x128, .f32⟩
  | .local .tc .vmem, ⟨13, _⟩ => ⟨S4096x128, .f32⟩
  | .local .tc .vmem, ⟨14, _⟩ => ⟨S4096x1, .i32⟩
  | .local .tc .vmem, ⟨15, _⟩ => ⟨S4096x1, .i32⟩
  | .local .tc .vmem, ⟨16, _⟩ => ⟨S4096x1, .i32⟩
  | .local .tc .vmem, ⟨17, _⟩ => ⟨S4096x1, .i32⟩
  | .local .tc .vmem, ⟨18, _⟩ => ⟨S128x128, .f32⟩
  | .local .tc .vmem, ⟨19, _⟩ => ⟨S128x128, .f32⟩
  | .local .tc .vmem, ⟨20, _⟩ => ⟨S1x128, .f32⟩
  | .local .tc .vmem, ⟨21, _⟩ => ⟨S128x64, .f32⟩
  | .local .tc .vmem, ⟨22, _⟩ => ⟨S1x64, .f32⟩
  | .local .tc .vmem, ⟨23, _⟩ => ⟨S64x1, .f32⟩
  | .local .tc .vmem, ⟨24, _⟩ => ⟨S1x1, .f32⟩
  | .local .tc .vmem, ⟨25, _⟩ => ⟨S4096x1, .f32⟩
  | .local .tc .vmem, ⟨26, _⟩ => ⟨S4096x1, .f32⟩
  | .local .scVector .vmem, ⟨0, _⟩ => ⟨S512, .i32⟩
  | .local .scVector .vmem, ⟨1, _⟩ => ⟨S512x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | ⟨14, _⟩ => false
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTables nBuf rfl bufTy 4 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v0 : Ref sig .tc := ⟨.hbm, 27, rfl⟩
abbrev main_c_0 : Ref sig .tc := ⟨.hbm, 28, rfl⟩
abbrev main_v1 : Ref sig .tc := ⟨.hbm, 29, rfl⟩
abbrev main_v2 : Ref sig .tc := ⟨.hbm, 30, rfl⟩
abbrev main_c_1 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_v5 : Ref sig .tc := ⟨.hbm, 40, rfl⟩
abbrev main_call1_v6 : Ref sig .tc := ⟨.hbm, 41, rfl⟩
abbrev main_call1_c_2 : Ref sig .tc := ⟨.hbm, 42, rfl⟩
abbrev main_call1_v7 : Ref sig .tc := ⟨.hbm, 43, rfl⟩
abbrev main_call1_v8 : Ref sig .tc := ⟨.hbm, 44, rfl⟩
abbrev main_call1_c_3 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_v3 : Ref sig .tc := ⟨.hbm, 52, rfl⟩
abbrev main_v4 : Ref sig .tc := ⟨.hbm, 53, rfl⟩
abbrev main_c_2 : Ref sig .tc := ⟨.hbm, 54, rfl⟩
abbrev main_call2_v0 : Ref sig .tc := ⟨.hbm, 55, rfl⟩
abbrev main_call2_c : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_c_1 : Ref sig .tc := ⟨.hbm, 62, rfl⟩
abbrev main_call2_v5 : Ref sig .tc := ⟨.hbm, 63, rfl⟩
abbrev main_call2_v6 : Ref sig .tc := ⟨.hbm, 64, rfl⟩
abbrev main_call2_c_2 : Ref sig .tc := ⟨.hbm, 65, rfl⟩
abbrev main_call2_v7 : Ref sig .tc := ⟨.hbm, 66, rfl⟩
abbrev main_call2_v8 : Ref sig .tc := ⟨.hbm, 67, rfl⟩
abbrev main_call2_c_3 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_v5 : Ref sig .tc := ⟨.hbm, 75, rfl⟩
abbrev main_c_3 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_c : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_0 : Ref sig .tc := ⟨.hbm, 90, rfl⟩
abbrev main_call3_v12 : Ref sig .tc := ⟨.hbm, 91, rfl⟩
abbrev main_call3_v13 : Ref sig .tc := ⟨.hbm, 92, rfl⟩
abbrev main_v6 : Ref sig .tc := ⟨.hbm, 93, rfl⟩
abbrev main_v7 : Ref sig .tc := ⟨.hbm, 94, rfl⟩
abbrev main_c_4 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_v5 : Ref sig .tc := ⟨.hbm, 101, rfl⟩
abbrev main_call4_v6 : Ref sig .tc := ⟨.hbm, 102, rfl⟩
abbrev main_call4_v7 : Ref sig .tc := ⟨.hbm, 103, rfl⟩
abbrev main_call4_v8 : Ref sig .tc := ⟨.hbm, 104, rfl⟩
abbrev main_call4_c : Ref sig .tc := ⟨.hbm, 105, rfl⟩
abbrev main_call4_v9 : Ref sig .tc := ⟨.hbm, 106, rfl⟩
abbrev main_call4_v10 : Ref sig .tc := ⟨.hbm, 107, rfl⟩
abbrev main_call4_v11 : Ref sig .tc := ⟨.hbm, 108, rfl⟩
abbrev main_call4_c_0 : Ref sig .tc := ⟨.hbm, 109, rfl⟩
abbrev main_call4_v12 : Ref sig .tc := ⟨.hbm, 110, rfl⟩
abbrev main_call4_v13 : Ref sig .tc := ⟨.hbm, 111, rfl⟩
abbrev main_v8 : Ref sig .tc := ⟨.hbm, 112, rfl⟩
abbrev main_c_5 : Ref sig .tc := ⟨.hbm, 113, rfl⟩
abbrev main_v9 : Ref sig .tc := ⟨.hbm, 114, rfl⟩
abbrev main_v10 : Ref sig .tc := ⟨.hbm, 115, rfl⟩
abbrev main_c_6 : Ref sig .tc := ⟨.hbm, 116, rfl⟩
abbrev main_call5_v0 : Ref sig .tc := ⟨.hbm, 117, rfl⟩
abbrev main_call5_c : Ref sig .tc := ⟨.hbm, 118, rfl⟩
abbrev main_call5_v1 : Ref sig .tc := ⟨.hbm, 119, rfl⟩
abbrev main_call5_c_0 : Ref sig .tc := ⟨.hbm, 120, rfl⟩
abbrev main_call5_v2 : Ref sig .tc := ⟨.hbm, 121, rfl⟩
abbrev main_call5_v3 : Ref sig .tc := ⟨.hbm, 122, rfl⟩
abbrev main_call5_v4 : Ref sig .tc := ⟨.hbm, 123, rfl⟩
abbrev main_call5_c_1 : Ref sig .tc := ⟨.hbm, 124, rfl⟩
abbrev main_call5_v5 : Ref sig .tc := ⟨.hbm, 125, rfl⟩
abbrev main_call5_v6 : Ref sig .tc := ⟨.hbm, 126, rfl⟩
abbrev main_call5_c_2 : Ref sig .tc := ⟨.hbm, 127, rfl⟩
abbrev main_call5_v7 : Ref sig .tc := ⟨.hbm, 128, rfl⟩
abbrev main_call5_v8 : Ref sig .tc := ⟨.hbm, 129, rfl⟩
abbrev main_call5_c_3 : Ref sig .tc := ⟨.hbm, 130, rfl⟩
abbrev main_call5_v9 : Ref sig .tc := ⟨.hbm, 131, rfl⟩
abbrev main_call5_v10 : Ref sig .tc := ⟨.hbm, 132, rfl⟩
abbrev main_call5_v11 : Ref sig .tc := ⟨.hbm, 133, rfl⟩
abbrev main_call5_v12 : Ref sig .tc := ⟨.hbm, 134, rfl⟩
abbrev main_call5_v13 : Ref sig .tc := ⟨.hbm, 135, rfl⟩
abbrev main_call5_v14 : Ref sig .tc := ⟨.hbm, 136, rfl⟩
abbrev main_v11 : Ref sig .tc := ⟨.hbm, 137, rfl⟩
abbrev main_v12 : Ref sig .tc := ⟨.hbm, 138, rfl⟩
abbrev main_c_7 : Ref sig .tc := ⟨.hbm, 139, rfl⟩
abbrev main_call6_v0 : Ref sig .tc := ⟨.hbm, 140, rfl⟩
abbrev main_call6_c : Ref sig .tc := ⟨.hbm, 141, rfl⟩
abbrev main_call6_v1 : Ref sig .tc := ⟨.hbm, 142, rfl⟩
abbrev main_call6_c_0 : Ref sig .tc := ⟨.hbm, 143, rfl⟩
abbrev main_call6_v2 : Ref sig .tc := ⟨.hbm, 144, rfl⟩
abbrev main_call6_v3 : Ref sig .tc := ⟨.hbm, 145, rfl⟩
abbrev main_call6_v4 : Ref sig .tc := ⟨.hbm, 146, rfl⟩
abbrev main_call6_c_1 : Ref sig .tc := ⟨.hbm, 147, rfl⟩
abbrev main_call6_v5 : Ref sig .tc := ⟨.hbm, 148, rfl⟩
abbrev main_call6_v6 : Ref sig .tc := ⟨.hbm, 149, rfl⟩
abbrev main_call6_c_2 : Ref sig .tc := ⟨.hbm, 150, rfl⟩
abbrev main_call6_v7 : Ref sig .tc := ⟨.hbm, 151, rfl⟩
abbrev main_call6_v8 : Ref sig .tc := ⟨.hbm, 152, rfl⟩
abbrev main_call6_c_3 : Ref sig .tc := ⟨.hbm, 153, rfl⟩
abbrev main_call6_v9 : Ref sig .tc := ⟨.hbm, 154, rfl⟩
abbrev main_call6_v10 : Ref sig .tc := ⟨.hbm, 155, rfl⟩
abbrev main_call6_v11 : Ref sig .tc := ⟨.hbm, 156, rfl⟩
abbrev main_call6_v12 : Ref sig .tc := ⟨.hbm, 157, rfl⟩
abbrev main_call6_v13 : Ref sig .tc := ⟨.hbm, 158, rfl⟩
abbrev main_call6_v14 : Ref sig .tc := ⟨.hbm, 159, rfl⟩
abbrev main_v13 : Ref sig .tc := ⟨.hbm, 160, rfl⟩
abbrev main_c_8 : Ref sig .tc := ⟨.hbm, 161, rfl⟩
abbrev main_call7_v0 : Ref sig .tc := ⟨.hbm, 162, rfl⟩
abbrev main_call7_v1 : Ref sig .tc := ⟨.hbm, 163, rfl⟩
abbrev main_call7_v2 : Ref sig .tc := ⟨.hbm, 164, rfl⟩
abbrev main_call7_v3 : Ref sig .tc := ⟨.hbm, 165, rfl⟩
abbrev main_call7_v4 : Ref sig .tc := ⟨.hbm, 166, rfl⟩
abbrev main_call7_v5 : Ref sig .tc := ⟨.hbm, 167, rfl⟩
abbrev main_call7_v6 : Ref sig .tc := ⟨.hbm, 168, rfl⟩
abbrev main_call7_v7 : Ref sig .tc := ⟨.hbm, 169, rfl⟩
abbrev main_call7_v8 : Ref sig .tc := ⟨.hbm, 170, rfl⟩
abbrev main_call7_c : Ref sig .tc := ⟨.hbm, 171, rfl⟩
abbrev main_call7_v9 : Ref sig .tc := ⟨.hbm, 172, rfl⟩
abbrev main_call7_v10 : Ref sig .tc := ⟨.hbm, 173, rfl⟩
abbrev main_call7_v11 : Ref sig .tc := ⟨.hbm, 174, rfl⟩
abbrev main_call7_c_0 : Ref sig .tc := ⟨.hbm, 175, rfl⟩
abbrev main_call7_v12 : Ref sig .tc := ⟨.hbm, 176, rfl⟩
abbrev main_call7_v13 : Ref sig .tc := ⟨.hbm, 177, rfl⟩
abbrev main_v14 : Ref sig .tc := ⟨.hbm, 178, rfl⟩
abbrev main_v15 : Ref sig .tc := ⟨.hbm, 179, rfl⟩
abbrev main_v16 : Ref sig .tc := ⟨.hbm, 180, rfl⟩
abbrev main_v17 : Ref sig .tc := ⟨.hbm, 181, rfl⟩
abbrev main_c_9 : Ref sig .tc := ⟨.hbm, 182, rfl⟩
abbrev main_v18 : Ref sig .tc := ⟨.hbm, 183, rfl⟩
abbrev main_v19 : Ref sig .tc := ⟨.hbm, 184, rfl⟩
abbrev main_v20 : Ref sig .tc := ⟨.hbm, 185, rfl⟩
abbrev main_v21 : Ref sig .tc := ⟨.hbm, 186, rfl⟩
abbrev main_v22 : Ref sig .tc := ⟨.hbm, 187, rfl⟩
abbrev main_v23 : Ref sig .tc := ⟨.hbm, 188, rfl⟩
abbrev main_v24 : Ref sig .tc := ⟨.hbm, 189, rfl⟩
abbrev main_v25 : Ref sig .tc := ⟨.hbm, 190, rfl⟩
abbrev main_v26_0 : Ref sig .tc := ⟨.hbm, 191, rfl⟩
abbrev main_v26_1 : Ref sig .tc := ⟨.hbm, 192, rfl⟩
abbrev main_v27 : Ref sig .tc := ⟨.hbm, 193, rfl⟩
abbrev main_v28 : Ref sig .tc := ⟨.hbm, 194, rfl⟩
abbrev main_v29 : Ref sig .tc := ⟨.hbm, 195, rfl⟩
abbrev main_v30 : Ref sig .tc := ⟨.hbm, 196, rfl⟩
abbrev main_v31 : Ref sig .tc := ⟨.hbm, 197, rfl⟩
abbrev main_v32 : Ref sig .tc := ⟨.hbm, 198, rfl⟩
abbrev main_v33 : Ref sig .tc := ⟨.hbm, 199, rfl⟩
abbrev main_v34 : Ref sig .tc := ⟨.hbm, 200, rfl⟩
abbrev main_v35 : Ref sig .tc := ⟨.hbm, 201, rfl⟩
abbrev main_v36 : Ref sig .tc := ⟨.hbm, 202, rfl⟩
abbrev main_v37 : Ref sig .tc := ⟨.hbm, 203, rfl⟩
abbrev main_v38 : Ref sig .tc := ⟨.hbm, 204, rfl⟩
abbrev main_v39 : Ref sig .tc := ⟨.hbm, 205, rfl⟩
abbrev main_v40 : Ref sig .tc := ⟨.hbm, 206, rfl⟩
abbrev main_v41 : Ref sig .tc := ⟨.hbm, 207, rfl⟩
abbrev main_v42 : Ref sig .tc := ⟨.hbm, 208, rfl⟩
abbrev main_v4_scv : Ref sig .scVector := ⟨.hbm, 53, rfl⟩
abbrev main_v12_scv : Ref sig .scVector := ⟨.hbm, 138, rfl⟩
abbrev main_v23_scv : Ref sig .scVector := ⟨.hbm, 188, rfl⟩
abbrev main_v25_scv : Ref sig .scVector := ⟨.hbm, 190, rfl⟩
abbrev main_v26_0_scv : Ref sig .scVector := ⟨.hbm, 191, rfl⟩
abbrev main_v26_1_scv : Ref sig .scVector := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc3_stg0_0 : Ref sig .tc := ⟨.vmem, 10, rfl⟩
abbrev cc3_stg0_1 : Ref sig .tc := ⟨.vmem, 11, rfl⟩
abbrev cc3_stg1_0 : Ref sig .tc := ⟨.vmem, 12, rfl⟩
abbrev cc3_stg1_1 : Ref sig .tc := ⟨.vmem, 13, rfl⟩
abbrev cc3_stg2_0 : Ref sig .tc := ⟨.vmem, 14, rfl⟩
abbrev cc3_stg2_1 : Ref sig .tc := ⟨.vmem, 15, rfl⟩
abbrev cc3_stg3_0 : Ref sig .tc := ⟨.vmem, 16, rfl⟩
abbrev cc3_stg3_1 : Ref sig .tc := ⟨.vmem, 17, rfl⟩
abbrev cc3_stg4_0 : Ref sig .tc := ⟨.vmem, 18, rfl⟩
abbrev cc3_stg5_0 : Ref sig .tc := ⟨.vmem, 19, rfl⟩
abbrev cc3_stg6_0 : Ref sig .tc := ⟨.vmem, 20, rfl⟩
abbrev cc3_stg7_0 : Ref sig .tc := ⟨.vmem, 21, rfl⟩
abbrev cc3_stg8_0 : Ref sig .tc := ⟨.vmem, 22, rfl⟩
abbrev cc3_stg9_0 : Ref sig .tc := ⟨.vmem, 23, rfl⟩
abbrev cc3_stg10_0 : Ref sig .tc := ⟨.vmem, 24, rfl⟩
abbrev cc3_stg11_0 : Ref sig .tc := ⟨.vmem, 25, rfl⟩
abbrev cc3_stg11_1 : Ref sig .tc := ⟨.vmem, 26, rfl⟩
abbrev cc2_scratch0 : Ref sig .scVector := ⟨.vmem, 0, rfl⟩
abbrev cc2_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem5_0 : DmaSem sig := 24
abbrev cc3_sem6_0 : DmaSem sig := 25
abbrev cc3_sem7_0 : DmaSem sig := 26
abbrev cc3_sem8_0 : DmaSem sig := 27
abbrev cc3_sem9_0 : DmaSem sig := 28
abbrev cc3_sem10_0 : DmaSem sig := 29
abbrev cc3_sem11_0 : DmaSem sig := 30
abbrev cc3_sem11_1 : DmaSem sig := 31
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![13], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k2_off2 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_7_r1 : BitVec 32 := 0#32
  ![v2.toNat, 0]
abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4096x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x1 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S4096x1 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000000x16 : Shape := ⟨2, ![1000000, 16]⟩
abbrev S100000x16 : Shape := ⟨2, ![100000, 16]⟩
abbrev S128x32 : Shape := ⟨2, ![128, 32]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x16 : Shape := ⟨2, ![16384, 16]⟩
abbrev S16384x32 : Shape := ⟨2, ![16384, 32]⟩
abbrev S32x128 : Shape := ⟨2, ![32, 128]⟩
abbrev S16384x128 : Shape := ⟨2, ![16384, 128]⟩
abbrev S1x128 : Shape := ⟨2, ![1, 128]⟩
abbrev S128x64 : Shape := ⟨2, ![128, 64]⟩
abbrev S16384x64 : Shape := ⟨2, ![16384, 64]⟩
abbrev S64x1 : Shape := ⟨2, ![64, 1]⟩

abbrev nBuf : Space → Nat
  | .hbm => 78
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x16, .f32⟩
  | .hbm, ⟨3, _⟩ => ⟨S100000x16, .f32⟩
  | .hbm, ⟨4, _⟩ => ⟨S128x32, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S1x64, .f32⟩
  | .hbm, ⟨9, _⟩ => ⟨S1, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S1, .i32⟩
  | .hbm, ⟨19, _⟩ => ⟨S_, .i32⟩
  | .hbm, ⟨20, _⟩ => ⟨S16384x1, .i32⟩
  | .hbm, ⟨21, _⟩ => ⟨S16384x1, .i1⟩
  | .hbm, ⟨22, _⟩ => ⟨S1x1, .i32⟩
  | .hbm, ⟨23, _⟩ => ⟨S16384x1, .i32⟩
  | .hbm, ⟨24, _⟩ => ⟨S16384x1, .i1⟩
  | .hbm, ⟨25, _⟩ => ⟨S16384x1, .i1⟩
  | .hbm, ⟨26, _⟩ => ⟨S_, .i1⟩
  | .hbm, ⟨27, _⟩ => ⟨S16384, .i1⟩
  | .hbm, ⟨28, _⟩ => ⟨S16384x16, .f32⟩
  | .hbm, ⟨29, _⟩ => ⟨S16384x16, .i1⟩
  | .hbm, ⟨30, _⟩ => ⟨S_, .f32⟩
  | .hbm, ⟨31, _⟩ => ⟨S16384x16, .f32⟩
  | .hbm, ⟨32, _⟩ => ⟨S16384x16, .f32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S1, .i32⟩
  | .hbm, ⟨42, _⟩ => ⟨S_, .i32⟩
  | .hbm, ⟨43, _⟩ => ⟨S16384x1, .i32⟩
  | .hbm, ⟨44, _⟩ => ⟨S16384x1, .i1⟩
  | .hbm, ⟨45, _⟩ => ⟨S1x1, .i32⟩
  | .hbm, ⟨46, _⟩ => ⟨S16384x1, .i32⟩
  | .hbm, ⟨47, _⟩ => ⟨S16384x1, .i1⟩
  | .hbm, ⟨48, _⟩ => ⟨S16384x1, .i1⟩
  | .hbm, ⟨49, _⟩ => ⟨S_, .i1⟩
  | .hbm, ⟨50, _⟩ => ⟨S16384, .i1⟩
  | .hbm, ⟨51, _⟩ => ⟨S16384x16, .f32⟩
  | .hbm, ⟨52, _⟩ => ⟨S16384x16, .i1⟩
  | .hbm, ⟨53, _⟩ => ⟨S_, .f32⟩
  | .hbm, ⟨54, _⟩ => ⟨S16384x16, .f32⟩
  | .hbm, ⟨55, _⟩ => ⟨S16384x16, .f32⟩
  | .hbm, ⟨56, _⟩ => ⟨S16384x32, .f32⟩
  | .hbm, ⟨57, _⟩ => ⟨S32x128, .f32⟩
  | .hbm, ⟨58, _⟩ => ⟨S16384x128, .f32⟩
  | .hbm, ⟨59, _⟩ => ⟨S1x128, .f32⟩
  | .hbm, ⟨60, _⟩ => ⟨S16384x128, .f32⟩
  | .hbm, ⟨61, _⟩ => ⟨S16384x128, .f32⟩
  | .hbm, ⟨62, _⟩ => ⟨S_, .f32⟩
  | .hbm, ⟨63, _⟩ => ⟨S16384x128, .f32⟩
  | .hbm, ⟨64, _⟩ => ⟨S16384x128, .f32⟩
  | .hbm, ⟨65, _⟩ => ⟨S128x64, .f32⟩
  | .hbm, ⟨66, _⟩ => ⟨S16384x64, .f32⟩
  | .hbm, ⟨67, _⟩ => ⟨S1x64, .f32⟩
  | .hbm, ⟨68, _⟩ => ⟨S16384x64, .f32⟩
  | .hbm, ⟨69, _⟩ => ⟨S16384x64, .f32⟩
  | .hbm, ⟨70, _⟩ => ⟨S_, .f32⟩
  | .hbm, ⟨71, _⟩ => ⟨S16384x64, .f32⟩
  | .hbm, ⟨72, _⟩ => ⟨S16384x64, .f32⟩
  | .hbm, ⟨73, _⟩ => ⟨S64x1, .f32⟩
  | .hbm, ⟨74, _⟩ => ⟨S16384x1, .f32⟩
  | .hbm, ⟨75, _⟩ => ⟨S1x1, .f32⟩
  | .hbm, ⟨76, _⟩ => ⟨S16384x1, .f32⟩
  | .hbm, ⟨77, _⟩ => ⟨S16384x1, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v1 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_call2_cst : Ref sig .tc := ⟨.hbm, 62, rfl⟩
abbrev main_call2_v0 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_call3_cst : Ref sig .tc := ⟨.hbm, 70, rfl⟩
abbrev main_call3_v0 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩

abbrev nD : Nat := 1
abbrev τ : Topo := Topo.v7x

variable {F : FTy → Type} [FloatOps F]
-- ==== Proof.Common.lean ====
/-
  What every module of the kernel's run shares: the program as the SparseCore launch sees it, the resource algebra
  (the handshakes' rounds, the three pipelines' rounds, the transfers' counters), the launch element and what it funds.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.RegionArrays
public import Idealize.ShloMosaic.Lib.Pipeline.FrameBody
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The pipelines' labels. -/
abbrev ΛP : Labels := Pipeline.Sig Λ₀ (Fin 3) fun p => (pcfgs (F := F) p).Adm
/-- The SparseCore configuration: one call. -/
abbrev K : SparseCore.Cfg τ sig (ΛP (F := F)) 1 := sc (F := F)
/-- The body table below the SparseCore calls. -/
abbrev D [FloatOps F] : Defs nD τ sig (Elt F) (ΛP (F := F)) := Pipeline.defs pcfgs defs₀
/-- No variant below the pipelines. -/
abbrev 𝒱₀ : Variants := Variants.none
/-- The pipelines' variants. -/
abbrev 𝒱 : Variants := 𝒱₀.lift
/-- The variant the kernel labels start at. -/
abbrev v₀ : 𝒱.V := Sum.inl none

/-- The launch semaphores are distinct and unscoped where the launch needs them so. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipelines' staging rounds. -/
abbrev UP : Type := URounds (GSem nD τ sig) Unit
/-- Both, beside the transfers' counters. -/
abbrev UU : Type := UH × (UP × Counters)

local notation "𝕄" => MT nD τ sig (HIx 1) (Elt F) ℕ UU ℕ

/-- The handshakes' rounds in the model. -/
abbrev EH : Emb UH (MT nD τ sig (HIx 1) (Elt F) ℕ UU ℕ) := embL
/-- The pipelines' rounds in the model. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-- The pipelines' admissions: none of them prefetches a table. -/
abbrev adm : (p : Fin 3) → (pcfgs (F := F) p).Adm := fun p => (cfgs p).toPCfg_adm

/-- The launch element: the handshakes' and the pipelines' rounds, no counter. -/
def u₀ : UU := (initOf (K (F := F)).hsCells (K (F := F)).hsToks,
  (initOf (Pipeline.cells cfgs cellOf_inj) (Pipeline.launchToks cfgs cellOf_inj), 1))

/-- The two rounds' launch elements out of one owned triple. -/
theorem own_parts (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- What device `d`'s TensorCore is dealt for its three pipelines. -/
def G (d : Dev nD) : sProp 𝕄 :=
  iprop((bigSep Finset.univ fun p : Fin 3 => Pipeline.cellsGhost cfgs EP p d)
    ∗ (bigSep Finset.univ fun p : Fin 3 => Pipeline.toksInit cfgs EP p d))

/-- The launch element funds the handshakes and each device's pipelines. -/
theorem fund (X : sProp 𝕄) (hX : (BI.emp : sProp 𝕄) ⊢ X) : (ownU (u₀ (F := F)) : sProp 𝕄)
    ⊢ |={Set.univ}=> iprop(BI.own (EH (initOf (K (F := F)).hsCells (K (F := F)).hsToks)) ∗ bigSep Finset.univ (G (F := F)) ∗ X) := by
  unfold u₀
  iintro Hu
  ihave H := (own_parts (F := F) _ _) $$ Hu
  icases H with ⟨Hh, Hp⟩
  imod (Pipeline.fund_ghost cfgs EP cellOf_inj) $$ Hp with ⟨Hc, Ht⟩
  imodintro
  isplitl [Hh]; · iexact Hh
  isplitr []
  · unfold G; rw [BI.bigSep_sep']
    isplitl [Hc] <;> iassumption
  · iapply hX; iempintro

end Cert.Proof.Run

end
-- ==== Proof.TileValue.lean ====
/-
  The rows one tile of the SparseCore gather fetches: the tile's pieces of the arrays, and what its indexed copies
  deliver as a function of the table and the list.
-/
module

public import proofs.«01_k».proof.Proof.Common
public import Idealize.ShloMosaic.Lib.Pipeline.ValueKit.Geometry

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iuV" => (Memref.whole main_v4_scv : Memref sig Kind.scVector Space.hbm S16384 EltTy.i32)
local notation "imV" => (Memref.whole main_v12_scv : Memref sig Kind.scVector Space.hbm S16384 EltTy.i32)
local notation "tuV" => (Memref.whole main_v23_scv : Memref sig Kind.scVector Space.hbm S125952x128 EltTy.f32)
local notation "tmV" => (Memref.whole main_v25_scv : Memref sig Kind.scVector Space.hbm S13312x128 EltTy.f32)
local notation "ouV" => (Memref.whole main_v26_0_scv : Memref sig Kind.scVector Space.hbm S16384x128 EltTy.f32)
local notation "omV" => (Memref.whole main_v26_1_scv : Memref sig Kind.scVector Space.hbm S16384x128 EltTy.f32)
local notation "sV" => (Memref.whole cc2_scratch0 : Memref sig Kind.scVector Space.vmem S512 EltTy.i32)
local notation "rV" => (Memref.whole cc2_scratch1 : Memref sig Kind.scVector Space.vmem S512x128 EltTy.f32)

/-! ## The gathered rows -/

/-- The index of entry `k` of a list. -/
def at1 {n : ℕ} (k : Fin n) : (⟨1, ![n]⟩ : Shape).Idx := fun | 0 => k
/-- The index of row `r`, column `l` of a matrix. -/
def at2 {n m : ℕ} (r : Fin n) (l : Fin m) : (⟨2, ![n, m]⟩ : Shape).Idx := fun | 0 => r | 1 => l

/-- Row `ix r` of the big table at row `r` (the row number taken below the table's height). -/
def gathU (t : S125952x128.Idx → F .f32) (ix : S16384.Idx → BitVec 32) : S16384x128.Idx → F .f32 := fun j =>
  t (at2 ⟨(ix (at1 (j 0))).toNat % 125952, Nat.mod_lt _ (by decide)⟩ (j 1))

/-- Row `ix r` of the small table at row `r` (the row number taken below the table's height). -/
def gathM (t : S13312x128.Idx → F .f32) (ix : S16384.Idx → BitVec 32) : S16384x128.Idx → F .f32 := fun j =>
  t (at2 ⟨(ix (at1 (j 0))).toNat % 13312, Nat.mod_lt _ (by decide)⟩ (j 1))

/-! ## A tile's coordinates and pieces -/

/-- The tile of SparseCore `c` and vector subcore `s` as a grid point. -/
def coordsV (c : Fin (grid2.bound 0)) (s : Fin (grid2.bound 1)) : grid2.Coords :=
  fun | 0 => c | 1 => s | ⟨_ + 2, h⟩ => absurd h (Nat.not_lt.2 (Nat.le_add_left _ _))

section Tile

variable (d : Dev nD) (L : grid2.Coords)

/-- The tile's SparseCore and its vector subcore. -/
abbrev cV (L : grid2.Coords) : Fin τ.nSC := (L 0).castLE hcore2
abbrev jV (L : grid2.Coords) : Fin τ.nSub := (L 1).castLE hsub2

/-- The tile's 512 indices, and its 512 rows of an output. -/
abbrev idxRect (L : grid2.Coords) : Rect S16384 := Rect.unit (s := S16384) (k2_off1 L) S512.size (k2_off1_inb L)
abbrev rowRect (L : grid2.Coords) : Rect S16384x128 := Rect.unit (s := S16384x128) (k2_off2 L) S512x128.size (k2_off2_inb L)
abbrev iuK (L : grid2.Coords) : Memref sig .scVector .hbm S512 .i32 := (iuV).slice (idxRect L) (fun _ => rfl)
abbrev imK (L : grid2.Coords) : Memref sig .scVector .hbm S512 .i32 := (imV).slice (idxRect L) (fun _ => rfl)
abbrev ouK (L : grid2.Coords) : Memref sig .scVector .hbm S512x128 .f32 := (ouV).slice (rowRect L) (fun _ => rfl)
abbrev omK (L : grid2.Coords) : Memref sig .scVector .hbm S512x128 .f32 := (omV).slice (rowRect L) (fun _ => rfl)

/-- The buffers of the call, on device `d`. -/
abbrev iuLoc (d : Dev nD) : Loc nD τ sig := (SparseCore.T d).loc main_v4
abbrev imLoc (d : Dev nD) : Loc nD τ sig := (SparseCore.T d).loc main_v12
abbrev tuLoc (d : Dev nD) : Loc nD τ sig := (SparseCore.T d).loc main_v23
abbrev tmLoc (d : Dev nD) : Loc nD τ sig := (SparseCore.T d).loc main_v25
abbrev ouLoc (d : Dev nD) : Loc nD τ sig := (SparseCore.T d).loc main_v26_0
abbrev omLoc (d : Dev nD) : Loc nD τ sig := (SparseCore.T d).loc main_v26_1

theorem set_iuK : (iuK L).view.set = (idxRect L).set := by
  show ((View.whole (main_v4_scv : Ref sig .scVector)).slice (idxRect L)).set = _
  rw [View.set_slice]; exact Finset.map_refl
theorem set_imK : (imK L).view.set = (idxRect L).set := by
  show ((View.whole (main_v12_scv : Ref sig .scVector)).slice (idxRect L)).set = _
  rw [View.set_slice]; exact Finset.map_refl
theorem set_ouK : (ouK L).view.set = (rowRect L).set := by
  show ((View.whole (main_v26_0_scv : Ref sig .scVector)).slice (rowRect L)).set = _
  rw [View.set_slice]; exact Finset.map_refl
theorem set_omK : (omK L).view.set = (rowRect L).set := by
  show ((View.whole (main_v26_1_scv : Ref sig .scVector)).slice (rowRect L)).set = _
  rw [View.set_slice]; exact Finset.map_refl

theorem pts_iuK (f : Buf (Elt F) (iuLoc d)) : ((iuK L).view.loc (V d (cV L) (jV L)) ↦[(iuK L).view.set]{fullShare} f : sProp 𝕄)
    = iuLoc d ↦[(idxRect L).set]{fullShare} f := by rw [set_iuK]
theorem pts_imK (f : Buf (Elt F) (imLoc d)) : ((imK L).view.loc (V d (cV L) (jV L)) ↦[(imK L).view.set]{fullShare} f : sProp 𝕄)
    = imLoc d ↦[(idxRect L).set]{fullShare} f := by rw [set_imK]
theorem pts_ouK (f : Buf (Elt F) (ouLoc d)) : ((ouK L).view.loc (V d (cV L) (jV L)) ↦[(ouK L).view.set]{fullShare} f : sProp 𝕄)
    = ouLoc d ↦[(rowRect L).set]{fullShare} f := by rw [set_ouK]
theorem pts_omK (f : Buf (Elt F) (omLoc d)) : ((omK L).view.loc (V d (cV L) (jV L)) ↦[(omK L).view.set]{fullShare} f : sProp 𝕄)
    = omLoc d ↦[(rowRect L).set]{fullShare} f := by rw [set_omK]
theorem pts_tuV (q : PosShare TreeShare) (f : Buf (Elt F) (tuLoc d)) :
    ((tuV).view.loc (V d (cV L) (jV L)) ↦{q} f : sProp 𝕄) = tuLoc d ↦{q} f := rfl
theorem pts_tmV (q : PosShare TreeShare) (f : Buf (Elt F) (tmLoc d)) :
    ((tmV).view.loc (V d (cV L) (jV L)) ↦{q} f : sProp 𝕄) = tmLoc d ↦{q} f := rfl
theorem pts_sV (f : Buf (Elt F) ((V d (cV L) (jV L)).loc cc2_scratch0)) :
    ((sV).view.loc (V d (cV L) (jV L)) ↦{fullShare} f : sProp 𝕄) = (V d (cV L) (jV L)).loc cc2_scratch0 ↦{fullShare} f := rfl
theorem pts_rV (f : Buf (Elt F) ((V d (cV L) (jV L)).loc cc2_scratch1)) :
    ((rV).view.loc (V d (cV L) (jV L)) ↦{fullShare} f : sProp 𝕄) = (V d (cV L) (jV L)).loc cc2_scratch1 ↦{fullShare} f := rfl

/-- Reading the row buffer after a whole store gives what was stored. -/
theorem read_last (f : (rV).view.ty.Contents (Elt F)) (g : S512x128.Idx → F .f32) (L : List (View.Piece (Elt F) S512x128 .f32)) (x : S512x128.Idx) :
    (rV).view.read (Elt F) ((rV).view.writes (Elt F) f (⟨Rect.whole S512x128, g⟩ :: L)) x = g x := by
  have e : (Rect.whole S512x128).emb x = x := funext fun a => Fin.ext (show 0 + 1 * (x a).val = (x a).val by omega)
  exact (congrArg ((rV).view.read (Elt F) ((rV).view.writes (Elt F) f (⟨Rect.whole S512x128, g⟩ :: L))) e.symm).trans
    (View.read_writes_cons_emb (rV).view f (Rect.whole S512x128) g L x)

theorem off1_0 : k2_off1 L 0 = k2_off2 L 0 := by rw [k2_off1_eq, k2_off2_eq]; rfl
theorem off2_1 : k2_off2 L 1 = 0 := by rw [k2_off2_eq]; rfl

/-- The list a tile fetches: entry `k` is the index of its row `k`. -/
theorem list_entry {β : Type} (g : S512.Idx → β) (k : Fin S512.numel) (x : S512.Idx) (hx : (x 0).val = k.val) : g (S512.rowMajor.symm k) = g x := by
  congr 1
  rw [Equiv.symm_apply_eq]
  exact Fin.ext ((Shape.rowMajor_val_one (d := ![512]) x).trans hx).symm

/-- What the first gather delivers at an element of the tile's rows: the gathered row of the big table. -/
theorem payload_U (ft : Buf (Elt F) (tuLoc d)) (fi : Buf (Elt F) (iuLoc d))
    (hin : ∀ j, ((sV).view.read (Elt F) ((iuK L).view.read (Elt F) fi) j).toNat < S125952x128.size gathers_S125952x128_S512x128.axis) (x : S512x128.Idx) :
    SparseCore.gatherPayload (F := F) (e := .f32) gathers_S125952x128_S512x128
        (((tuV).slice (Rect.unit (s := S125952x128) ![0, 0] S125952x128.size inb_S125952x128_S125952x128_0_0) (fun _ => rfl)).view.read (Elt F) ft)
        (SparseCore.rows (F := F) ((sV).view.read (Elt F) ((iuK L).view.read (Elt F) fi)) rfl hin) x
      = gathU (F := F) ft fi ((ouK L).view.emb x) := by
  unfold SparseCore.gatherPayload gathU
  refine congrArg ft (funext fun b => ?_)
  match b with
  | 0 =>
    refine Fin.ext ((ValueKit.rect_emb_unit_val _ _ _ _ 0).trans ((Nat.zero_add _).trans ((congrArg Fin.val (Shape.Gathers.idx_axis gathers_S125952x128_S512x128
      (SparseCore.rows (F := F) ((sV).view.read (Elt F) ((iuK L).view.read (Elt F) fi)) rfl hin) x)).trans ?_)))
    have e : ((sV).view.read (Elt F) ((iuK L).view.read (Elt F) fi)) (S512.rowMajor.symm ((x 0).cast rfl))
        = fi (at1 ((ouK L).view.emb x 0)) := by
      refine (list_entry _ _ (at1 (x 0)) rfl).trans (congrArg fi (funext fun a => ?_))
      match a with
      | 0 =>
        refine Fin.ext ((ValueKit.rect_emb_unit_val _ _ _ _ 0).trans (Eq.trans ?_ (ValueKit.rect_emb_unit_val _ _ _ _ 0).symm))
        exact congrArg (· + (x 0).val) (off1_0 L)
    have h := hin (S512.rowMajor.symm ((x 0).cast rfl))
    rw [e] at h
    have h' : BitVec.toNat (fi (at1 ((ouK L).view.emb x 0))) < 125952 := h
    exact (congrArg BitVec.toNat e).trans (show _ = _ % _ from (Nat.mod_eq_of_lt h').symm)
  | 1 =>
    refine Fin.ext ((ValueKit.rect_emb_unit_val _ _ _ _ 1).trans ((Nat.zero_add _).trans ((Shape.Gathers.idx_of_ne gathers_S125952x128_S512x128 _ x 1 (by decide)).trans ?_)))
    refine Eq.trans ?_ (ValueKit.rect_emb_unit_val _ _ _ _ 1).symm
    exact (Nat.zero_add _).symm.trans (congrArg (· + (x 1).val) (off2_1 L).symm)

/-- What the second gather delivers: the gathered row of the small table. -/
theorem payload_M (ft : Buf (Elt F) (tmLoc d)) (fi : Buf (Elt F) (imLoc d))
    (hin : ∀ j, ((sV).view.read (Elt F) ((imK L).view.read (Elt F) fi) j).toNat < S13312x128.size gathers_S13312x128_S512x128.axis) (x : S512x128.Idx) :
    SparseCore.gatherPayload (F := F) (e := .f32) gathers_S13312x128_S512x128
        (((tmV).slice (Rect.unit (s := S13312x128) ![0, 0] S13312x128.size inb_S13312x128_S13312x128_0_0) (fun _ => rfl)).view.read (Elt F) ft)
        (SparseCore.rows (F := F) ((sV).view.read (Elt F) ((imK L).view.read (Elt F) fi)) rfl hin) x
      = gathM (F := F) ft fi ((omK L).view.emb x) := by
  unfold SparseCore.gatherPayload gathM
  refine congrArg ft (funext fun b => ?_)
  match b with
  | 0 =>
    refine Fin.ext ((ValueKit.rect_emb_unit_val _ _ _ _ 0).trans ((Nat.zero_add _).trans ((congrArg Fin.val (Shape.Gathers.idx_axis gathers_S13312x128_S512x128
      (SparseCore.rows (F := F) ((sV).view.read (Elt F) ((imK L).view.read (Elt F) fi)) rfl hin) x)).trans ?_)))
    have e : ((sV).view.read (Elt F) ((imK L).view.read (Elt F) fi)) (S512.rowMajor.symm ((x 0).cast rfl))
        = fi (at1 ((omK L).view.emb x 0)) := by
      refine (list_entry _ _ (at1 (x 0)) rfl).trans (congrArg fi (funext fun a => ?_))
      match a with
      | 0 =>
        refine Fin.ext ((ValueKit.rect_emb_unit_val _ _ _ _ 0).trans (Eq.trans ?_ (ValueKit.rect_emb_unit_val _ _ _ _ 0).symm))
        exact congrArg (· + (x 0).val) (off1_0 L)
    have h := hin (S512.rowMajor.symm ((x 0).cast rfl))
    rw [e] at h
    have h' : BitVec.toNat (fi (at1 ((omK L).view.emb x 0))) < 13312 := h
    exact (congrArg BitVec.toNat e).trans (show _ = _ % _ from (Nat.mod_eq_of_lt h').symm)
  | 1 =>
    refine Fin.ext ((ValueKit.rect_emb_unit_val _ _ _ _ 1).trans ((Nat.zero_add _).trans ((Shape.Gathers.idx_of_ne gathers_S13312x128_S512x128 _ x 1 (by decide)).trans ?_)))
    refine Eq.trans ?_ (ValueKit.rect_emb_unit_val _ _ _ _ 1).symm
    exact (Nat.zero_add _).symm.trans (congrArg (· + (x 1).val) (off2_1 L).symm)

end Tile

end Cert.Proof.Run

end
-- ==== Proof.Tile.lean ====
/-
  One tile of the SparseCore gather, at a symbolic pair of SparseCore and vector subcore: it fetches its 512 indices,
  gathers their rows of a table and writes them to its 512 rows of the output, once per table.
-/
module

public import proofs.«01_k».proof.Proof.TileValue

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iuV" => (Memref.whole main_v4_scv : Memref sig Kind.scVector Space.hbm S16384 EltTy.i32)
local notation "imV" => (Memref.whole main_v12_scv : Memref sig Kind.scVector Space.hbm S16384 EltTy.i32)
local notation "tuV" => (Memref.whole main_v23_scv : Memref sig Kind.scVector Space.hbm S125952x128 EltTy.f32)
local notation "tmV" => (Memref.whole main_v25_scv : Memref sig Kind.scVector Space.hbm S13312x128 EltTy.f32)
local notation "ouV" => (Memref.whole main_v26_0_scv : Memref sig Kind.scVector Space.hbm S16384x128 EltTy.f32)
local notation "omV" => (Memref.whole main_v26_1_scv : Memref sig Kind.scVector Space.hbm S16384x128 EltTy.f32)
local notation "sV" => (Memref.whole cc2_scratch0 : Memref sig Kind.scVector Space.vmem S512 EltTy.i32)
local notation "rV" => (Memref.whole cc2_scratch1 : Memref sig Kind.scVector Space.vmem S512x128 EltTy.f32)

section Tile

variable (d : Dev nD) (L : grid2.Coords)

/-! ## The tile's own semaphores and scratch -/

abbrev cellS (s : DmaSem sig) : GSem nD τ sig := (V d (cV L) (jV L), .dma s)

theorem ownSems0_V :
    (ownSems0 (V d (cV L) (jV L)) : sProp 𝕄)
      = iprop(semVal (cellS d L cc2_scratch2.sem) 0 ∗ semVal (cellS d L cc2_scoped0.sem) 0 ∗ semVal (cellS d L cc2_scoped1.sem) 0
          ∗ semVal (cellS d L cc2_scoped2.sem) 0 ∗ semVal (cellS d L cc2_scoped3.sem) 0
          ∗ bigSep ((((((ownCells (V d (cV L) (jV L))).erase (cellS d L cc2_scratch2.sem)).erase (cellS d L cc2_scoped0.sem)).erase
              (cellS d L cc2_scoped1.sem)).erase (cellS d L cc2_scoped2.sem)).erase (cellS d L cc2_scoped3.sem)) fun g => semVal g 0) := by
  have hmem : ∀ s : DmaSem sig, (SemLoc.dma s : SemLoc sig).isScoped .scVector = true → cellS d L s ∈ ownCells (V d (cV L) (jV L)) :=
    fun s h => mem_ownCells.mpr ⟨rfl, h⟩
  have hne : ∀ s s' : DmaSem sig, s ≠ s' → cellS d L s ≠ cellS d L s' := fun s s' h e => h (SemLoc.dma.inj (Prod.mk.inj e).2)
  unfold SparseCore.Cfg.ownSems0
  rw [SparseCore.bigSep_erase' (hmem cc2_scratch2.sem (by decide)),
    SparseCore.bigSep_erase' (Finset.mem_erase.mpr ⟨hne cc2_scoped0.sem cc2_scratch2.sem (by decide), hmem cc2_scoped0.sem (by decide)⟩),
    SparseCore.bigSep_erase' (Finset.mem_erase.mpr ⟨hne cc2_scoped1.sem cc2_scoped0.sem (by decide), Finset.mem_erase.mpr
      ⟨hne cc2_scoped1.sem cc2_scratch2.sem (by decide), hmem cc2_scoped1.sem (by decide)⟩⟩),
    SparseCore.bigSep_erase' (Finset.mem_erase.mpr ⟨hne cc2_scoped2.sem cc2_scoped1.sem (by decide), Finset.mem_erase.mpr
      ⟨hne cc2_scoped2.sem cc2_scoped0.sem (by decide), Finset.mem_erase.mpr
      ⟨hne cc2_scoped2.sem cc2_scratch2.sem (by decide), hmem cc2_scoped2.sem (by decide)⟩⟩⟩),
    SparseCore.bigSep_erase' (Finset.mem_erase.mpr ⟨hne cc2_scoped3.sem cc2_scoped2.sem (by decide), Finset.mem_erase.mpr
      ⟨hne cc2_scoped3.sem cc2_scoped1.sem (by decide), Finset.mem_erase.mpr
      ⟨hne cc2_scoped3.sem cc2_scoped0.sem (by decide), Finset.mem_erase.mpr
      ⟨hne cc2_scoped3.sem cc2_scratch2.sem (by decide), hmem cc2_scoped3.sem (by decide)⟩⟩⟩⟩)]

theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

/-- A tile's hold on the six buffers: its indices, a share `q` of each table, its rows of each output. -/
def tilePts (q : PosShare TreeShare) (fiu : Buf (Elt F) (iuLoc d)) (fim : Buf (Elt F) (imLoc d)) (ftu : Buf (Elt F) (tuLoc d))
    (ftm : Buf (Elt F) (tmLoc d)) (fou : Buf (Elt F) (ouLoc d)) (fom : Buf (Elt F) (omLoc d)) : sProp 𝕄 :=
  iprop((iuLoc d ↦[(idxRect L).set]{fullShare} fiu) ∗ (imLoc d ↦[(idxRect L).set]{fullShare} fim) ∗ (tuLoc d ↦{q} ftu) ∗ (tmLoc d ↦{q} ftm)
    ∗ (ouLoc d ↦[(rowRect L).set]{fullShare} fou) ∗ (omLoc d ↦[(rowRect L).set]{fullShare} fom))

variable [FloatOps F]

set_option maxHeartbeats 4000000 in
/-- The tile's run: from its indices, a share of each table and its rows of the two outputs, to the same with its rows
    of the outputs holding the gathered rows. -/
theorem tile_body (hF : (K (F := F)).Facts) (q : PosShare TreeShare)
    (fiu : Buf (Elt F) (iuLoc d)) (fim : Buf (Elt F) (imLoc d)) (ftu : Buf (Elt F) (tuLoc d)) (ftm : Buf (Elt F) (tmLoc d))
    (fou : Buf (Elt F) (ouLoc d)) (fom : Buf (Elt F) (omLoc d))
    (hiu : ∀ j : S16384.Idx, (show BitVec 32 from fiu j).toNat < 125952) (him : ∀ j : S16384.Idx, (show BitVec 32 from fim j).toNat < 13312)
    (O : CellTallies nD τ sig (HIx 1)) (W : Waits sig (HIx 1)) (hO : ∀ g, O g none = 0) :
    iprop(levAts (K (F := F)).L (K (F := F)).lev ∗ emp
        ∗ tilePts d L q fiu fim ftu ftm fou fom
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_gather_kernel L iuV (Memref.isWhole_whole _) imV (Memref.isWhole_whole _) tuV (Memref.isWhole_whole _) tmV (Memref.isWhole_whole _)
            ouV (Memref.isWhole_whole _) omV (Memref.isWhole_whole _) sV (Memref.isWhole_whole _) rV (Memref.isWhole_whole _)
            cc2_scratch2 cc2_scoped0 cc2_scoped1 cc2_scoped2 cc2_scoped3)
          fun _ => iprop(tilePts d L q fiu fim ftu ftm (gathU (F := F) ftu fiu) (gathM (F := F) ftm fim)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2_gather_kernel_eq_skeleton]; unfold cc2_gather_kernel_skel tilePts
  rw [(K (F := F)).scopedBufs_V hF d (cV L) (jV L), SparseCore.Cfg.scopedSems0_V (Val := Elt F) d (cV L) (jV L), ownSems0_V, ownBufs_V]
  iintro ⟨#Hlv, -, ⟨Hiu, Him, Htu, Htm, Hou, Hom⟩, ⟨⟨%fs, Hs⟩, ⟨%fr, Hr⟩, Hbufs⟩, ⟨HsG, HsA, HsB, HsC, HsD, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hiu' := (Entails.of_eq (pts_iuK (F := F) d L _).symm) $$ Hiu
  ihave Him' := (Entails.of_eq (pts_imK (F := F) d L _).symm) $$ Him
  ihave Hou' := (Entails.of_eq (pts_ouK (F := F) d L _).symm) $$ Hou
  ihave Hom' := (Entails.of_eq (pts_omK (F := F) d L _).symm) $$ Hom
  ihave Htu' := (Entails.of_eq (pts_tuV (F := F) d L _ _).symm) $$ Htu
  ihave Htm' := (Entails.of_eq (pts_tmV (F := F) d L _ _).symm) $$ Htm
  ihave Hs' := (Entails.of_eq (pts_sV (F := F) d L _).symm) $$ Hs
  ihave Hr' := (Entails.of_eq (pts_rV (F := F) d L _).symm) $$ Hr
  sl_exec
  have hlu : View.write (Elt F) (sV).view fs (tile_body.sl.dma0 d L fiu) Finset.univ = (iuK L).view.read (Elt F) fiu :=
    View.write_whole_univ _ _ _
  rw [hlu]
  have hin : ∀ j, ((sV).view.read (Elt F) ((iuK L).view.read (Elt F) fiu) j).toNat < S125952x128.size gathers_S125952x128_S512x128.axis :=
    fun j => hiu _
  sl_exec
  have hlm : View.write (Elt F) (sV).view ((iuK L).view.read (Elt F) fiu) (tile_body.sl.dma0_2 d L fim) Finset.univ = (imK L).view.read (Elt F) fim :=
    View.write_whole_univ _ _ _
  rw [hlm]
  have hinm : ∀ j, ((sV).view.read (Elt F) ((imK L).view.read (Elt F) fim) j).toNat < S13312x128.size gathers_S13312x128_S512x128.axis :=
    fun j => him _
  sl_exec
  sl_step
  isplitl [Hiu' Him' Htu' Htm' Hou' Hom']
  · isplitl [Hiu']; · iapply (Entails.of_eq (pts_iuK (F := F) d L _)); iexact Hiu'
    isplitl [Him']; · iapply (Entails.of_eq (pts_imK (F := F) d L _)); iexact Him'
    isplitl [Htu']; · iexact Htu'
    isplitl [Htm']; · iexact Htm'
    isplitl [Hou']
    · iapply (Entails.of_eq ((pointsTo_congr (q := fullShare) (fun i hi => ?_)).trans (pts_ouK (F := F) d L (gathU (F := F) ftu fiu)))) $$ Hou'
      obtain ⟨x, -, rfl⟩ := Finset.mem_map.mp hi
      refine (congrFun (View.read_writes_whole (ouK L).view fou _) x).trans (Eq.trans ?_ (payload_U d L ftu fiu hin x))
      exact read_last (F := F) fr _ [] x
    iapply (Entails.of_eq ((pointsTo_congr (q := fullShare) (fun i hi => ?_)).trans (pts_omK (F := F) d L (gathM (F := F) ftm fim)))) $$ Hom'
    obtain ⟨x, -, rfl⟩ := Finset.mem_map.mp hi
    refine (congrFun (View.read_writes_whole (omK L).view fom _) x).trans (Eq.trans ?_ (payload_M d L ftm fim hinm x))
    exact read_last (F := F) fr _ _ x
  isplitl [Hs' Hr' Hbufs]
  · isplitl [Hs']; · iexists _; iexact Hs'
    isplitl [Hr']; · iexists _; iexact Hr'
    iexact Hbufs
  isplitl [HsG HsA HsB HsC HsD Hsems]
  · isplitl [HsG]; · iexact HsG
    isplitl [HsA]; · iexact HsA
    isplitl [HsB]; · iexact HsB
    isplitl [HsC]; · iexact HsC
    isplitl [HsD]; · iexact HsD
    iexact Hsems
  iexists _; isplitr
  swap; · iexact HO
  ipureintro; intro p hp
  simp only [Finset.mem_insert] at hp
  rcases hp with hp | hp | hp | hp | hp | hp | hp
  all_goals first | exact .inr (hp ▸ rfl) | exact .inl hp

end Tile

end Cert.Proof.Run

end
-- ==== Proof.Sparse.lean ====
/-
  The SparseCore call as the launch sees it: what the handshakes carry, the tiles' obligation, and the whole arrays as
  the separating conjunction of the tiles' pieces.
-/
module

public import proofs.«01_k».proof.Proof.Tile

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iuV" => (Memref.whole main_v4_scv : Memref sig Kind.scVector Space.hbm S16384 EltTy.i32)
local notation "imV" => (Memref.whole main_v12_scv : Memref sig Kind.scVector Space.hbm S16384 EltTy.i32)
local notation "tuV" => (Memref.whole main_v23_scv : Memref sig Kind.scVector Space.hbm S125952x128 EltTy.f32)
local notation "tmV" => (Memref.whole main_v25_scv : Memref sig Kind.scVector Space.hbm S13312x128 EltTy.f32)
local notation "ouV" => (Memref.whole main_v26_0_scv : Memref sig Kind.scVector Space.hbm S16384x128 EltTy.f32)
local notation "omV" => (Memref.whole main_v26_1_scv : Memref sig Kind.scVector Space.hbm S16384x128 EltTy.f32)
local notation "sV" => (Memref.whole cc2_scratch0 : Memref sig Kind.scVector Space.vmem S512 EltTy.i32)
local notation "rV" => (Memref.whole cc2_scratch1 : Memref sig Kind.scVector Space.vmem S512x128 EltTy.f32)

variable [FloatOps F]

/-! ## The call's arrays -/

/-- The contents of the call's six arrays, on every device. -/
structure Ops (F : FTy → Type) where
  iu : (d : Dev nD) → Buf (Elt F) (iuLoc d)
  im : (d : Dev nD) → Buf (Elt F) (imLoc d)
  tu : (d : Dev nD) → Buf (Elt F) (tuLoc d)
  tm : (d : Dev nD) → Buf (Elt F) (tmLoc d)
  ou : (d : Dev nD) → Buf (Elt F) (ouLoc d)
  om : (d : Dev nD) → Buf (Elt F) (omLoc d)

/-- The two outputs after the call. -/
abbrev Ops.rU (w : Ops F) (d : Dev nD) : Buf (Elt F) (ouLoc d) := gathU (F := F) (w.tu d) (w.iu d)
abbrev Ops.rM (w : Ops F) (d : Dev nD) : Buf (Elt F) (omLoc d) := gathM (F := F) (w.tm d) (w.im d)

/-- Every index names a row of its table. -/
structure Ops.InRange (w : Ops F) : Prop where
  iu : ∀ (d : Dev nD) (j : S16384.Idx), (show BitVec 32 from w.iu d j).toNat < 125952
  im : ∀ (d : Dev nD) (j : S16384.Idx), (show BitVec 32 from w.im d j).toNat < 13312

/-- The share of a table that the tile of SparseCore `c` and vector subcore `i` reads through. -/
def sh (c : Fin 2) (i : Fin 16) : PosShare TreeShare :=
  Transfers.dealOf (Transfers.dealOf fullShare (Finset.univ : Finset (Fin 2)) c) (Finset.univ : Finset (Fin 16)) i

/-- The grid point of SparseCore `c` and vector subcore `i`. -/
def tl (c : Fin 2) (i : Fin 16) : grid2.Coords := coordsV c i

/-- A tile's hold before the call, and after it. -/
abbrev goT (w : Ops F) (d : Dev nD) (c : Fin 2) (i : Fin 16) : sProp 𝕄 :=
  tilePts d (tl c i) (sh c i) (w.iu d) (w.im d) (w.tu d) (w.tm d) (w.ou d) (w.om d)
abbrev tdT (w : Ops F) (d : Dev nD) (c : Fin 2) (i : Fin 16) : sProp 𝕄 :=
  tilePts d (tl c i) (sh c i) (w.iu d) (w.im d) (w.tu d) (w.tm d) (w.rU d) (w.rM d)

instance tilePts_storable (d : Dev nD) (L : grid2.Coords) (q : PosShare TreeShare) (fiu : Buf (Elt F) (iuLoc d)) (fim : Buf (Elt F) (imLoc d)) (ftu : Buf (Elt F) (tuLoc d))
    (ftm : Buf (Elt F) (tmLoc d)) (fou : Buf (Elt F) (ouLoc d)) (fom : Buf (Elt F) (omLoc d)) :
    BI.Storable (upEmb : UEmb _ 𝕄) (tilePts d L q fiu fim ftu ftm fou fom) := by
  unfold tilePts; infer_instance

/-- What the call's handshakes carry: to each SparseCore its tiles' holds, and back the same with the gathered rows. -/
def P (w : Ops F) : (K (F := F)).Pay (nD := nD) (Val := Elt F) (Name := ℕ) (U := UU) where
  st := fun q d c => match q with | 0 => bigSep Finset.univ fun i : Fin 16 => goT w d c i
  dn := fun q d c => match q with | 0 => bigSep Finset.univ fun i : Fin 16 => tdT w d c i
  go := fun q d c i => match q with | 0 => goT w d c i
  td := fun q d c i => match q with | 0 => tdT w d c i
  x := fun _ _ => iprop(emp)

instance P_storable (w : Ops F) : (P (F := F) w).IsStorable where
  st q d c := match q with | 0 => (inferInstance : BI.Storable (upEmb : UEmb _ 𝕄) (bigSep Finset.univ fun i : Fin 16 => goT w d c i))
  dn q d c := match q with | 0 => (inferInstance : BI.Storable (upEmb : UEmb _ 𝕄) (bigSep Finset.univ fun i : Fin 16 => tdT w d c i))
  go q d c i := match q with | 0 => (inferInstance : BI.Storable (upEmb : UEmb _ 𝕄) (goT w d c i))
  td q d c i := match q with | 0 => (inferInstance : BI.Storable (upEmb : UEmb _ 𝕄) (tdT w d c i))

/-! ## The tiles' obligation -/

/-- The kernel's definition at a vector subcore: its body at the subcore's grid point. -/
theorem defs₀_vector (c : Fin τ.nSC) (s : Fin τ.nSub) :
    defs₀ (F := F) (.scVector c s) 2 ()
      = SparseCore.onTile hcore2 hsub2 (fun c s => cc2_gather_kernel (coordsV c s) iuV (Memref.isWhole_whole _) imV (Memref.isWhole_whole _)
          tuV (Memref.isWhole_whole _) tmV (Memref.isWhole_whole _) ouV (Memref.isWhole_whole _) omV (Memref.isWhole_whole _) sV (Memref.isWhole_whole _)
          rV (Memref.isWhole_whole _) cc2_scratch2 cc2_scoped0 cc2_scoped1 cc2_scoped2 cc2_scoped3) ⟨⟩ c s := rfl

omit [FloatOps F] in
/-- Waits recorded outside every call are among those a call may record. -/
theorem waits_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') :=
  sep_mono_right (sep_mono_right (sep_mono_right (exists_mono fun _ => sep_mono_left (BI.pure_mono fun h p hp => (h p hp).imp_right Or.inl))))

set_option maxRecDepth 16384 in
/-- Every tile meets the call's obligation. -/
theorem tileObl (w : Ops F) (hw : w.InRange) : (K (F := F)).TileObl (D (F := F)) 𝒱 (P w) v₀ 0 := by
  intro d c i O W hO _ _
  simp only [show (P (F := F) w).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) facts (sh c i) (w.iu d) (w.im d) (w.tu d) (w.tm d) (w.ou d) (w.om d) (hw.iu d) (hw.im d) O W hO).trans
    (wp_mono frame _ _ fun _ => waits_post)

/-- A sequencer passes its tiles' holds through. -/
theorem vecSplit (w : Ops F) : (K (F := F)).VecSplit' (P w) 0 := by
  intro d c
  show (bigSep Finset.univ fun i : Fin 16 => goT w d c i) ⊢ |={Set.univ}=> iprop((bigSep Finset.univ fun i : Fin 16 => goT w d c i)
    ∗ ((bigSep Finset.univ fun i : Fin 16 => tdT w d c i) -∗ (bigSep Finset.univ fun i : Fin 16 => tdT w d c i)))
  iintro H; imodintro
  isplitl [H]; · iexact H
  iintro H; iexact H

/-! ## The whole arrays, by tile -/

omit [FloatOps F] in
theorem mem_idxRect (p : Fin 2 × Fin 16) (j : S16384.Idx) :
    j ∈ (idxRect (tl p.1 p.2)).set ↔ 1024 * p.2.val + 512 * p.1.val ≤ (j 0).val ∧ (j 0).val < 1024 * p.2.val + 512 * p.1.val + 512 := by
  rw [Rect.mem_set_unit]
  have e : k2_off1 (tl p.1 p.2) 0 = 1024 * p.2.val + 512 * p.1.val := by rw [k2_off1_eq]; rfl
  constructor
  · intro h; have h0 := h 0; rw [e] at h0; exact h0
  · intro h a
    match a with
    | 0 => rw [e]; exact h

omit [FloatOps F] in
theorem mem_rowRect (p : Fin 2 × Fin 16) (j : S16384x128.Idx) :
    j ∈ (rowRect (tl p.1 p.2)).set ↔ 1024 * p.2.val + 512 * p.1.val ≤ (j 0).val ∧ (j 0).val < 1024 * p.2.val + 512 * p.1.val + 512 := by
  rw [Rect.mem_set_unit]
  have e : k2_off2 (tl p.1 p.2) 0 = 1024 * p.2.val + 512 * p.1.val := by rw [k2_off2_eq]; rfl
  have e1 : k2_off2 (tl p.1 p.2) 1 = 0 := off2_1 _
  constructor
  · intro h; have h0 := h 0; rw [e] at h0; exact h0
  · intro h a
    match a with
    | 0 => rw [e]; exact h
    | 1 => rw [e1]; exact ⟨Nat.zero_le _, (j 1).isLt.trans_eq (Nat.zero_add _).symm⟩

/-- The tile that holds entry or row `n`. -/
def tileOf (n : Fin 16384) : Fin 2 × Fin 16 := (⟨n.val % 1024 / 512, by omega⟩, ⟨n.val / 1024, by omega⟩)

omit [FloatOps F] in
theorem idx_disjoint : ∀ p ∈ (Finset.univ : Finset (Fin 2 × Fin 16)), ∀ p' ∈ (Finset.univ : Finset (Fin 2 × Fin 16)), p ≠ p' →
    Disjoint (idxRect (tl p.1 p.2)).set (idxRect (tl p'.1 p'.2)).set := by
  intro p _ p' _ h
  rw [Finset.disjoint_left]
  intro j hj hj'
  rw [mem_idxRect] at hj hj'
  exact h (Prod.ext (Fin.ext (by omega)) (Fin.ext (by omega)))

omit [FloatOps F] in
theorem row_disjoint : ∀ p ∈ (Finset.univ : Finset (Fin 2 × Fin 16)), ∀ p' ∈ (Finset.univ : Finset (Fin 2 × Fin 16)), p ≠ p' →
    Disjoint (rowRect (tl p.1 p.2)).set (rowRect (tl p'.1 p'.2)).set := by
  intro p _ p' _ h
  rw [Finset.disjoint_left]
  intro j hj hj'
  rw [mem_rowRect] at hj hj'
  exact h (Prod.ext (Fin.ext (by omega)) (Fin.ext (by omega)))

omit [FloatOps F] in
theorem idx_cover : (Finset.univ : Finset (Fin 2 × Fin 16)).biUnion (fun p => (idxRect (tl p.1 p.2)).set) = Finset.univ := by
  ext j
  simp only [Finset.mem_biUnion, Finset.mem_univ, true_and, iff_true]
  refine ⟨tileOf (j 0), (mem_idxRect _ _).2 ?_⟩
  have h : (j 0).val < 16384 := (j 0).isLt
  simp only [tileOf]; omega

omit [FloatOps F] in
theorem row_cover : (Finset.univ : Finset (Fin 2 × Fin 16)).biUnion (fun p => (rowRect (tl p.1 p.2)).set) = Finset.univ := by
  ext j
  simp only [Finset.mem_biUnion, Finset.mem_univ, true_and, iff_true]
  refine ⟨tileOf (j 0), (mem_rowRect _ _).2 ?_⟩
  have h : (j 0).val < 16384 := (j 0).isLt
  simp only [tileOf]; omega

omit [FloatOps F] in
theorem iu_tiles (d : Dev nD) (f : Buf (Elt F) (iuLoc d)) :
    (iuLoc d ↦{fullShare} f : sProp 𝕄) = bigSep Finset.univ fun c : Fin 2 => bigSep Finset.univ fun i : Fin 16 => iuLoc d ↦[(idxRect (tl c i)).set]{fullShare} f := by
  rw [← bigSep_univ_prod fun p : Fin 2 × Fin 16 => (iuLoc d ↦[(idxRect (tl p.1 p.2)).set]{fullShare} f : sProp 𝕄),
    ← pointsTo_biUnion Finset.univ (ℓ := iuLoc d) (fun p : Fin 2 × Fin 16 => (idxRect (tl p.1 p.2)).set) idx_disjoint, idx_cover]

omit [FloatOps F] in
theorem im_tiles (d : Dev nD) (f : Buf (Elt F) (imLoc d)) :
    (imLoc d ↦{fullShare} f : sProp 𝕄) = bigSep Finset.univ fun c : Fin 2 => bigSep Finset.univ fun i : Fin 16 => imLoc d ↦[(idxRect (tl c i)).set]{fullShare} f := by
  rw [← bigSep_univ_prod fun p : Fin 2 × Fin 16 => (imLoc d ↦[(idxRect (tl p.1 p.2)).set]{fullShare} f : sProp 𝕄),
    ← pointsTo_biUnion Finset.univ (ℓ := imLoc d) (fun p : Fin 2 × Fin 16 => (idxRect (tl p.1 p.2)).set) idx_disjoint, idx_cover]

omit [FloatOps F] in
theorem ou_tiles (d : Dev nD) (f : Buf (Elt F) (ouLoc d)) :
    (ouLoc d ↦{fullShare} f : sProp 𝕄) = bigSep Finset.univ fun c : Fin 2 => bigSep Finset.univ fun i : Fin 16 => ouLoc d ↦[(rowRect (tl c i)).set]{fullShare} f := by
  rw [← bigSep_univ_prod fun p : Fin 2 × Fin 16 => (ouLoc d ↦[(rowRect (tl p.1 p.2)).set]{fullShare} f : sProp 𝕄),
    ← pointsTo_biUnion Finset.univ (ℓ := ouLoc d) (fun p : Fin 2 × Fin 16 => (rowRect (tl p.1 p.2)).set) row_disjoint, row_cover]

omit [FloatOps F] in
theorem om_tiles (d : Dev nD) (f : Buf (Elt F) (omLoc d)) :
    (omLoc d ↦{fullShare} f : sProp 𝕄) = bigSep Finset.univ fun c : Fin 2 => bigSep Finset.univ fun i : Fin 16 => omLoc d ↦[(rowRect (tl c i)).set]{fullShare} f := by
  rw [← bigSep_univ_prod fun p : Fin 2 × Fin 16 => (omLoc d ↦[(rowRect (tl p.1 p.2)).set]{fullShare} f : sProp 𝕄),
    ← pointsTo_biUnion Finset.univ (ℓ := omLoc d) (fun p : Fin 2 × Fin 16 => (rowRect (tl p.1 p.2)).set) row_disjoint, row_cover]

omit [FloatOps F] in
theorem table_tiles (ℓ : Loc nD τ sig) (f : Buf (Elt F) ℓ) :
    (ℓ ↦{fullShare} f : sProp 𝕄) = bigSep Finset.univ fun c : Fin 2 => bigSep Finset.univ fun i : Fin 16 => ℓ ↦{sh c i} f := by
  rw [Transfers.pointsTo_deal (Finset.univ : Finset (Fin 2)) ⟨0, Finset.mem_univ _⟩ fullShare]
  exact bigSep_congr fun c _ => Transfers.pointsTo_deal (Finset.univ : Finset (Fin 16)) ⟨0, Finset.mem_univ _⟩ _

omit [FloatOps F] in
/-- The six arrays held whole are the tiles' holds together. -/
theorem arrays_tiles (d : Dev nD) (fiu : Buf (Elt F) (iuLoc d)) (fim : Buf (Elt F) (imLoc d)) (ftu : Buf (Elt F) (tuLoc d))
    (ftm : Buf (Elt F) (tmLoc d)) (fou : Buf (Elt F) (ouLoc d)) (fom : Buf (Elt F) (omLoc d)) :
    (iprop((iuLoc d ↦{fullShare} fiu) ∗ (imLoc d ↦{fullShare} fim) ∗ (tuLoc d ↦{fullShare} ftu) ∗ (tmLoc d ↦{fullShare} ftm)
      ∗ (ouLoc d ↦{fullShare} fou) ∗ (omLoc d ↦{fullShare} fom)) : sProp 𝕄)
      = bigSep Finset.univ fun c : Fin 2 => bigSep Finset.univ fun i : Fin 16 => tilePts d (tl c i) (sh c i) fiu fim ftu ftm fou fom := by
  unfold tilePts
  simp only [bigSep_sep']
  rw [iu_tiles, im_tiles, table_tiles (tuLoc d), table_tiles (tmLoc d), ou_tiles, om_tiles]

end Cert.Proof.Run

end
-- ==== Proof.Bodies.lean ====
/-
  The bodies of the three TensorCore calls on any whole buffers: what each leaves in its output buffer, as a function
  of what its input buffers hold.
-/
module

public import proofs.«01_k».proof.Proof.Sparse
public import Idealize.ShloMosaic.Lib.Pipeline.FrameBody
public import Idealize.ShloMosaic.Lib.Pipeline.Value
public import Idealize.ShloMosaic.Lib.VecWindow

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
variable [FloatOps F]

theorem zero2 : (![0, 0] : Fin 2 → Nat) = fun _ => 0 := funext fun a => by fin_cases a <;> rfl

/-! ## The repack -/

/-- One of the eight products a block's packing sums: columns `m` to `m + 15` of a 128 by 128 matrix by lanes `o` to
    `o + 1023` of a block. -/
def packTerm (E : S128x128.Idx → F .f32) (x : FVec F S16x8192 .f32) (m o : ℕ) (hm : ∀ a, (![0, m] : Fin 2 → Nat) a + S128x16.size a ≤ S128x128.size a)
    (ho : S16x8192.Slices ![0, o] S16x1024) : FVec F S128x1024 .f32 :=
  matmul dot_S128x16_S16x1024_S128x1024_1_0_0_1_n_n none
    (shapeCast S128x16 (View.ld (Val := Elt F) (e' := .f32) E (Rect.unit (s := S128x128) ![0, m] S128x16.size hm)) shapeCasts_S128x16_S128x16)
    (extractStridedSlice S16x1024 ![0, o] x ho) (constant S128x1024 .f32 0x00000000#32)

/-- A block packed: the eight products summed from zero, transposed. -/
def pack (E : S128x128.Idx → F .f32) (x : FVec F S16x8192 .f32) : FVec F S1024x128 .f32 :=
  transpose S1024x128 [1, 0] (addf (addf (addf (addf (addf (addf (addf (addf
    (broadcast S128x1024 (Scalar.ofBits .f32 0x00000000#32))
    (packTerm E x 0 0 inb_S128x128_S128x16_0_0 slices_S16x8192_o0_0_S16x1024))
    (packTerm E x 16 1024 inb_S128x128_S128x16_0_16 slices_S16x8192_o0_1024_S16x1024))
    (packTerm E x 32 2048 inb_S128x128_S128x16_0_32 slices_S16x8192_o0_2048_S16x1024))
    (packTerm E x 48 3072 inb_S128x128_S128x16_0_48 slices_S16x8192_o0_3072_S16x1024))
    (packTerm E x 64 4096 inb_S128x128_S128x16_0_64 slices_S16x8192_o0_4096_S16x1024))
    (packTerm E x 80 5120 inb_S128x128_S128x16_0_80 slices_S16x8192_o0_5120_S16x1024))
    (packTerm E x 96 6144 inb_S128x128_S128x16_0_96 slices_S16x8192_o0_6144_S16x1024))
    (packTerm E x 112 7168 inb_S128x128_S128x16_0_112 slices_S16x8192_o0_7168_S16x1024)) transposes_S128x1024_p1_0_S1024x128

/-- The printed payloads are the block's packing. -/
theorem pack_eq0 (E : S128x128.Idx → F .f32) (i : grid0.Coords) (X : FVec F S16x8192 .f32) :
    k0_pay1 (k0_pay2 i X) (k0_pay3 i X (View.ld (Val := Elt F) (e' := .f32) E (Rect.unit (s := S128x128) ![0, 0] S128x16.size inb_S128x128_S128x16_0_0))
      (View.ld (Val := Elt F) (e' := .f32) E (Rect.unit (s := S128x128) ![0, 16] S128x16.size inb_S128x128_S128x16_0_16))
      (View.ld (Val := Elt F) (e' := .f32) E (Rect.unit (s := S128x128) ![0, 32] S128x16.size inb_S128x128_S128x16_0_32))
      (View.ld (Val := Elt F) (e' := .f32) E (Rect.unit (s := S128x128) ![0, 48] S128x16.size inb_S128x128_S128x16_0_48))
      (View.ld (Val := Elt F) (e' := .f32) E (Rect.unit (s := S128x128) ![0, 64] S128x16.size inb_S128x128_S128x16_0_64)))
      (View.ld (Val := Elt F) (e' := .f32) E (Rect.unit (s := S128x128) ![0, 80] S128x16.size inb_S128x128_S128x16_0_80))
      (View.ld (Val := Elt F) (e' := .f32) E (Rect.unit (s := S128x128) ![0, 96] S128x16.size inb_S128x128_S128x16_0_96))
      (View.ld (Val := Elt F) (e' := .f32) E (Rect.unit (s := S128x128) ![0, 112] S128x16.size inb_S128x128_S128x16_0_112)) = pack E (k0_pay2 i X) := by
  unfold k0_pay1 k0_pay3
  generalize k0_pay2 i X = x
  rfl

set_option maxRecDepth 65536 in
/-- The first repack's body: the output buffer ends holding the masked block packed. -/
theorem repack0_body (c : Dev nD) (i : grid0.Coords) (arg1 : Memref sig .tc .vmem S16x8192 .f32) (h1 : arg1.IsWhole)
    (arg2 : Memref sig .tc .vmem S128x128 .f32) (h2 : arg2.IsWhole) (arg3 : Memref sig .tc .vmem S1024x128 .f32) (h3 : arg3.IsWhole)
    (X : S16x8192.Idx → F .f32) (E : S128x128.Idx → F .f32) (Y : S1024x128.Idx → F .f32) :
    iprop((owns (SparseCore.T c) arg1 fullShare X : sProp 𝕄) ∗ owns (SparseCore.T c) arg2 fullShare E ∗ owns (SparseCore.T c) arg3 fullShare Y)
      ⊢ wp frame (wpE (defs₀ (F := F)) 𝒱₀ (SparseCore.T c) none) Set.univ (cc0__repack_body i arg1 h1 arg2 h2 arg3 h3)
          fun _ => iprop(owns (SparseCore.T c) arg1 fullShare X ∗ owns (SparseCore.T c) arg2 fullShare E
            ∗ owns (SparseCore.T c) arg3 fullShare (pack E (k0_pay2 i X))) := by
  simp only [cc0__repack_body_eq_skeleton]; unfold cc0__repack_body_skel
  simp only [k0_part1_eq_skeleton]; unfold k0_part1_skel
  unfold owns
  iintro ⟨⟨%f1, %e1, H1⟩, ⟨%f2, %e2, H2⟩, ⟨%f3, %e3, H3⟩⟩
  sl_exec
  sl_step
  isplitl [H1]
  · iexists f1; isplitr; · ipureintro; exact e1
    iexact H1
  isplitl [H2]
  · iexists f2; isplitr; · ipureintro; exact e2
    iexact H2
  iexists _; isplitr
  swap; · iexact H3
  ipureintro
  refine (View.read_writes_full _ _ _ _ _).trans ?_
  have hx : View.readAt (Elt F) arg1.view (Rect.unit (s := S16x8192) ![0, 0] S16x8192.size inb_S16x8192_S16x8192_0_0).toLoadRect f1 = X :=
    (View.readAt_full _ _ _).trans e1
  rw [hx]
  simp only [View.readAt_eq_ld, e2]
  exact pack_eq0 E i X

/-- The printed payloads are the block's packing. -/
theorem pack_eq1 (E : S128x128.Idx → F .f32) (i : grid1.Coords) (X : FVec F S16x8192 .f32) :
    k1_pay1 (k1_pay2 i X) (k1_pay3 i X (View.ld (Val := Elt F) (e' := .f32) E (Rect.unit (s := S128x128) ![0, 0] S128x16.size inb_S128x128_S128x16_0_0))
      (View.ld (Val := Elt F) (e' := .f32) E (Rect.unit (s := S128x128) ![0, 16] S128x16.size inb_S128x128_S128x16_0_16))
      (View.ld (Val := Elt F) (e' := .f32) E (Rect.unit (s := S128x128) ![0, 32] S128x16.size inb_S128x128_S128x16_0_32))
      (View.ld (Val := Elt F) (e' := .f32) E (Rect.unit (s := S128x128) ![0, 48] S128x16.size inb_S128x128_S128x16_0_48))
      (View.ld (Val := Elt F) (e' := .f32) E (Rect.unit (s := S128x128) ![0, 64] S128x16.size inb_S128x128_S128x16_0_64)))
      (View.ld (Val := Elt F) (e' := .f32) E (Rect.unit (s := S128x128) ![0, 80] S128x16.size inb_S128x128_S128x16_0_80))
      (View.ld (Val := Elt F) (e' := .f32) E (Rect.unit (s := S128x128) ![0, 96] S128x16.size inb_S128x128_S128x16_0_96))
      (View.ld (Val := Elt F) (e' := .f32) E (Rect.unit (s := S128x128) ![0, 112] S128x16.size inb_S128x128_S128x16_0_112)) = pack E (k1_pay2 i X) := by
  unfold k1_pay1 k1_pay3
  generalize k1_pay2 i X = x
  rfl

set_option maxRecDepth 65536 in
/-- The second repack's body: the output buffer ends holding the masked block packed. -/
theorem repack1_body (c : Dev nD) (i : grid1.Coords) (arg1 : Memref sig .tc .vmem S16x8192 .f32) (h1 : arg1.IsWhole)
    (arg2 : Memref sig .tc .vmem S128x128 .f32) (h2 : arg2.IsWhole) (arg3 : Memref sig .tc .vmem S1024x128 .f32) (h3 : arg3.IsWhole)
    (X : S16x8192.Idx → F .f32) (E : S128x128.Idx → F .f32) (Y : S1024x128.Idx → F .f32) :
    iprop((owns (SparseCore.T c) arg1 fullShare X : sProp 𝕄) ∗ owns (SparseCore.T c) arg2 fullShare E ∗ owns (SparseCore.T c) arg3 fullShare Y)
      ⊢ wp frame (wpE (defs₀ (F := F)) 𝒱₀ (SparseCore.T c) none) Set.univ (cc1__repack_body i arg1 h1 arg2 h2 arg3 h3)
          fun _ => iprop(owns (SparseCore.T c) arg1 fullShare X ∗ owns (SparseCore.T c) arg2 fullShare E
            ∗ owns (SparseCore.T c) arg3 fullShare (pack E (k1_pay2 i X))) := by
  simp only [cc1__repack_body_eq_skeleton]; unfold cc1__repack_body_skel
  simp only [k1_part1_eq_skeleton]; unfold k1_part1_skel
  unfold owns
  iintro ⟨⟨%f1, %e1, H1⟩, ⟨%f2, %e2, H2⟩, ⟨%f3, %e3, H3⟩⟩
  sl_exec
  sl_step
  isplitl [H1]
  · iexists f1; isplitr; · ipureintro; exact e1
    iexact H1
  isplitl [H2]
  · iexists f2; isplitr; · ipureintro; exact e2
    iexact H2
  iexists _; isplitr
  swap; · iexact H3
  ipureintro
  refine (View.read_writes_full _ _ _ _ _).trans ?_
  have hx : View.readAt (Elt F) arg1.view (Rect.unit (s := S16x8192) ![0, 0] S16x8192.size inb_S16x8192_S16x8192_0_0).toLoadRect f1 = X :=
    (View.readAt_full _ _ _).trans e1
  rw [hx]
  simp only [View.readAt_eq_ld, e2]
  exact pack_eq1 E i X

/-! ## The perceptron -/

/-- What the perceptron's body computes of its blocks. -/
def mlpOf (gu gm : S4096x128.Idx → F .f32) (su sm : S4096x1.Idx → BitVec 32) (w1u w1m : S128x128.Idx → F .f32) (b1 : S1x128.Idx → F .f32)
    (w2 : S128x64.Idx → F .f32) (b2 : S1x64.Idx → F .f32) (w3 : S64x1.Idx → F .f32) (b3 : S1x1.Idx → F .f32) : FVec F S4096x1 .f32 :=
  k3_pay1 (k3_pay3 su gu) (k3_pay4 sm gm) w1u w1m b1 w2 b2 w3 b3

/-- The perceptron's body: the output buffer ends holding its blocks' result. -/
theorem mlp_body (c : Dev nD) (i : grid3.Coords) (arg1 : Memref sig .tc .vmem S4096x128 .f32) (h1 : arg1.IsWhole)
    (arg2 : Memref sig .tc .vmem S4096x128 .f32) (h2 : arg2.IsWhole)
    (arg3 : Memref sig .tc .vmem S4096x1 .i32) (h3 : arg3.IsWhole)
    (arg4 : Memref sig .tc .vmem S4096x1 .i32) (h4 : arg4.IsWhole)
    (arg5 : Memref sig .tc .vmem S128x128 .f32) (h5 : arg5.IsWhole)
    (arg6 : Memref sig .tc .vmem S128x128 .f32) (h6 : arg6.IsWhole)
    (arg7 : Memref sig .tc .vmem S1x128 .f32) (h7 : arg7.IsWhole)
    (arg8 : Memref sig .tc .vmem S128x64 .f32) (h8 : arg8.IsWhole)
    (arg9 : Memref sig .tc .vmem S1x64 .f32) (h9 : arg9.IsWhole)
    (arg10 : Memref sig .tc .vmem S64x1 .f32) (h10 : arg10.IsWhole)
    (arg11 : Memref sig .tc .vmem S1x1 .f32) (h11 : arg11.IsWhole)
    (arg12 : Memref sig .tc .vmem S4096x1 .f32) (h12 : arg12.IsWhole)
    (gu : S4096x128.Idx → F .f32) (gm : S4096x128.Idx → F .f32) (su : S4096x1.Idx → BitVec 32) (sm : S4096x1.Idx → BitVec 32) (w1u : S128x128.Idx → F .f32) (w1m : S128x128.Idx → F .f32) (b1 : S1x128.Idx → F .f32) (w2 : S128x64.Idx → F .f32) (b2 : S1x64.Idx → F .f32) (w3 : S64x1.Idx → F .f32) (b3 : S1x1.Idx → F .f32) (y : S4096x1.Idx → F .f32) :
    iprop((owns (SparseCore.T c) arg1 fullShare gu : sProp 𝕄) ∗ (owns (SparseCore.T c) arg2 fullShare gm : sProp 𝕄) ∗ (owns (SparseCore.T c) arg3 fullShare su : sProp 𝕄) ∗ (owns (SparseCore.T c) arg4 fullShare sm : sProp 𝕄) ∗ (owns (SparseCore.T c) arg5 fullShare w1u : sProp 𝕄) ∗ (owns (SparseCore.T c) arg6 fullShare w1m : sProp 𝕄) ∗ (owns (SparseCore.T c) arg7 fullShare b1 : sProp 𝕄) ∗ (owns (SparseCore.T c) arg8 fullShare w2 : sProp 𝕄) ∗ (owns (SparseCore.T c) arg9 fullShare b2 : sProp 𝕄) ∗ (owns (SparseCore.T c) arg10 fullShare w3 : sProp 𝕄) ∗ (owns (SparseCore.T c) arg11 fullShare b3 : sProp 𝕄) ∗ (owns (SparseCore.T c) arg12 fullShare y : sProp 𝕄))
      ⊢ wp frame (wpE (defs₀ (F := F)) 𝒱₀ (SparseCore.T c) none) Set.univ (cc3__mlp_body i arg1 h1 arg2 h2 arg3 h3 arg4 h4 arg5 h5 arg6 h6 arg7 h7 arg8 h8 arg9 h9 arg10 h10 arg11 h11 arg12 h12)
          fun _ => iprop(owns (SparseCore.T c) arg1 fullShare gu ∗ owns (SparseCore.T c) arg2 fullShare gm ∗ owns (SparseCore.T c) arg3 fullShare su ∗ owns (SparseCore.T c) arg4 fullShare sm ∗ owns (SparseCore.T c) arg5 fullShare w1u ∗ owns (SparseCore.T c) arg6 fullShare w1m ∗ owns (SparseCore.T c) arg7 fullShare b1 ∗ owns (SparseCore.T c) arg8 fullShare w2 ∗ owns (SparseCore.T c) arg9 fullShare b2 ∗ owns (SparseCore.T c) arg10 fullShare w3 ∗ owns (SparseCore.T c) arg11 fullShare b3
            ∗ owns (SparseCore.T c) arg12 fullShare (mlpOf gu gm su sm w1u w1m b1 w2 b2 w3 b3)) := by
  simp only [cc3__mlp_body_eq_skeleton]; unfold cc3__mlp_body_skel
  simp only [k3_part1_eq_skeleton]; unfold k3_part1_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩⟩
  sl_exec
  sl_step
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  isplitl [H10]
  · iexists f10; isplitr; · ipureintro; exact e10
    iexact H10
  isplitl [H11]
  · iexists f11; isplitr; · ipureintro; exact e11
    iexact H11
  iexists _; isplitr
  swap; · iexact H12
  ipureintro
  refine (View.read_writes_full _ _ _ _ _).trans ?_
  have r1 : View.readAt (Elt F) arg1.view (Rect.unit (s := S4096x128) ![0, 0] S4096x128.size inb_S4096x128_S4096x128_0_0).toLoadRect f1 = gu :=
    (View.readAt_full _ _ _).trans e1
  have r2 : View.readAt (Elt F) arg2.view (Rect.unit (s := S4096x128) ![0, 0] S4096x128.size inb_S4096x128_S4096x128_0_0).toLoadRect f2 = gm :=
    (View.readAt_full _ _ _).trans e2
  have r3 : View.readAt (Elt F) arg3.view (Rect.unit (s := S4096x1) ![0, 0] S4096x1.size inb_S4096x1_S4096x1_0_0).toLoadRect f3 = su :=
    (View.readAt_full _ _ _).trans e3
  have r4 : View.readAt (Elt F) arg4.view (Rect.unit (s := S4096x1) ![0, 0] S4096x1.size inb_S4096x1_S4096x1_0_0).toLoadRect f4 = sm :=
    (View.readAt_full _ _ _).trans e4
  have r5 : View.readAt (Elt F) arg5.view (Rect.unit (s := S128x128) ![0, 0] S128x128.size inb_S128x128_S128x128_0_0).toLoadRect f5 = w1u :=
    (View.readAt_full _ _ _).trans e5
  have r6 : View.readAt (Elt F) arg6.view (Rect.unit (s := S128x128) ![0, 0] S128x128.size inb_S128x128_S128x128_0_0).toLoadRect f6 = w1m :=
    (View.readAt_full _ _ _).trans e6
  have r7 : View.readAt (Elt F) arg7.view (Rect.unit (s := S1x128) ![0, 0] S1x128.size inb_S1x128_S1x128_0_0).toLoadRect f7 = b1 :=
    (View.readAt_full _ _ _).trans e7
  have r8 : View.readAt (Elt F) arg8.view (Rect.unit (s := S128x64) ![0, 0] S128x64.size inb_S128x64_S128x64_0_0).toLoadRect f8 = w2 :=
    (View.readAt_full _ _ _).trans e8
  have r9 : View.readAt (Elt F) arg9.view (Rect.unit (s := S1x64) ![0, 0] S1x64.size inb_S1x64_S1x64_0_0).toLoadRect f9 = b2 :=
    (View.readAt_full _ _ _).trans e9
  have r10 : View.readAt (Elt F) arg10.view (Rect.unit (s := S64x1) ![0, 0] S64x1.size inb_S64x1_S64x1_0_0).toLoadRect f10 = w3 :=
    (View.readAt_full _ _ _).trans e10
  have r11 : View.readAt (Elt F) arg11.view (Rect.unit (s := S1x1) ![0, 0] S1x1.size inb_S1x1_S1x1_0_0).toLoadRect f11 = b3 :=
    (View.readAt_full _ _ _).trans e11
  rw [r1, r2, r3, r4, r5, r6, r7, r8, r9, r10, r11]
  rfl

end Cert.Proof.Run

end
-- ==== Proof.Repack.lean ====
/-
  The first repacking call as a pipeline: what each grid point's body finds and leaves, and the whole array a run of all
  points leaves.
-/
module

public import proofs.«01_k».proof.Proof.Bodies
public import Idealize.ShloMosaic.Lib.Pipeline.ValueKit.Geometry
public import Idealize.ShloMosaic.Lib.WordCmp

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligationLoose arrRef)

variable {F : FTy → Type}

local notation "𝕄" => MT nD τ sig (HIx 1) (Elt F) ℕ UU ℕ
variable [FloatOps F]

/-- Contents of the TensorCore's buffers. -/
abbrev Vals (F : FTy → Type) : Type := Valuation τ sig (Elt F)
/-- A TensorCore buffer as the device's. -/
abbrev dr (b : Ref sig .tc) : DevRef τ sig := Proc.devRef .tc b

/-- The waits a TensorCore may have recorded before a region: those whose level is at most `b`. -/
def recs (c : Dev nD) (b : ℕ) : Set (SemLoc sig × HIx 1) := {p | (K (F := F)).lev (T c, p.1) p.2 ≤ b}

/-- The signed comparison of two small index words, when it holds, -/
theorem slt_one {a b : ℕ} (ha : a < 2147483648) (hb : b < 2147483648) (h : a < b) :
    IntOp.cmpi .slt (BitVec.ofNat 32 a) (BitVec.ofNat 32 b) = 1#1 :=
  (WordCmp.cmpi_slt_ofNat_eq_one_iff (w := 32) (lt_of_lt_of_le ha (by decide)) (lt_of_lt_of_le hb (by decide))).mpr h
/-- and when it does not. -/
theorem slt_zero {a b : ℕ} (ha : a < 2147483648) (hb : b < 2147483648) (h : ¬a < b) :
    IntOp.cmpi .slt (BitVec.ofNat 32 a) (BitVec.ofNat 32 b) = 0#1 :=
  (WordCmp.cmpi_slt_ofNat_eq_zero_iff (w := 32) (lt_of_lt_of_le ha (by decide)) (lt_of_lt_of_le hb (by decide))).mpr (by omega)

/-! ## The first repack -/

/-- Block `i` of the transposed first table, with zeros past the table's last row. -/
def masked0 (t : S16x1000000.Idx → F .f32) (i : ℕ) : FVec F S16x8192 .f32 := fun j =>
  if h : i * 8192 + (j 1).val < 1000000 then t (at2 (j 0) ⟨i * 8192 + (j 1).val, h⟩) else Scalar.ofBits .f32 0x00000000#32

/-- The block the first window's fetch reads at point `t`. -/
def blk0 (V : Vals F) (t : Fin cfg0.N) : (win0_0.xblock (grid0.coords t)).Idx → Elt F .f32 :=
  (win0_0.blk t).view.read (Elt F) (V (dr main_v22))

/-- The proof data of the first repack, entered at contents `V`. -/
def dat0 (V : Vals F) (c : Dev nD) : Dat τ (Elt F) (HIx 1) ℕ UU ℕ cfg0 c where
  A w := V (dr (arrRef spec0 w))
  after w t := match w with
    | ⟨0, _⟩ => win0_0.fill (grid0.coords t) (fun _ => Scalar.ofBits .f32 0x00000000#32) (blk0 V t)
    | ⟨1, _⟩ => (win0_1.blk t).view.read (Elt F) (V (dr main_v21))
    | ⟨2, _⟩ => pack (V (dr main_v21)) (masked0 (V (dr main_v22)) t.val)
  Φ _ := Pipeline.scopedRest spec0 c
  q _ := fullShare
  owed _ := (K (F := F)).Otc c 0
  recorded _ := recs (F := F) c 0

theorem coords0 (t : Fin cfg0.N) : (grid0.coords t 0).val = t.val := by
  revert t; exact (by decide +kernel : ∀ t : Fin grid0.N, (grid0.coords t 0).val = t.val)

theorem index0_0 (t : Fin cfg0.N) : win0_0.index t = ![0, t.val] := by
  revert t; exact (by decide +kernel : ∀ t : Fin grid0.N, win0_0.index t = ![0, t.val])
theorem index0_1 (t : Fin cfg0.N) : win0_1.index t = ![0, 0] := by
  revert t; exact (by decide +kernel : ∀ t : Fin grid0.N, win0_1.index t = ![0, 0])
theorem index0_2 (t : Fin cfg0.N) : win0_2.index t = ![t.val, 0] := by
  revert t; exact (by decide +kernel : ∀ t : Fin grid0.N, win0_2.index t = ![t.val, 0])

/-- The second window's block is the whole matrix. -/
theorem whole0_1 (V : Vals F) (t : Fin cfg0.N) : (win0_1.blk t).view.read (Elt F) (V (dr main_v21)) = V (dr main_v21) := by
  have e := index0_1
  funext y
  refine congrArg (V (dr main_v21)) ?_
  blk_ext [e]

theorem before0_0 (V : Vals F) (c : Dev nD) (t : Fin cfg0.N) (d) :
    (dat0 V c).before (0 : Fin 3) t d = win0_0.fill (grid0.coords t) d (blk0 V t) :=
  (dat0 V c).before_fetched 0 t (fetch0_0 t) d
theorem before0_1 (V : Vals F) (c : Dev nD) (t : Fin cfg0.N) (d) : (dat0 V c).before (1 : Fin 3) t d = V (dr main_v21) :=
  ((dat0 V c).before_in_eq_fetched 1 rfl (fun _ => rfl) (fun _ _ _ => rfl) (fun _ => rfl) t d).trans (whole0_1 V t)

/-- How much of the first window's block the fetch at point `t` moves. -/
theorem xsize0 (t : Fin cfg0.N) : win0_0.xsize (grid0.coords t) 0 = 16
    ∧ t.val * 8192 + win0_0.xsize (grid0.coords t) 1 = min ((t.val + 1) * 8192) 1000000 := by
  refine ⟨rfl, ?_⟩
  have hN : t.val < 123 := t.isLt
  have e : win0_0.index t 1 = t.val := by rw [index0_0 t]; rfl
  show t.val * 8192 + Pipeline.Clip.extent (Pipeline.Clip.of (win0_0.index t 1) 8192 1000000) 8192 = _
  rw [e]
  unfold Pipeline.Clip.of
  split
  · show t.val * 8192 + 8192 = _; omega
  · show t.val * 8192 + (1000000 - t.val * 8192) = _; omega

/-- The number of table rows from block `t` on, as the body's word arithmetic has it. -/
theorem valid0 (n : ℕ) (hn : n < 123) :
    Scalar.subi (1000000#32) (Scalar.muli (BitVec.ofNat 32 n) 8192#32) = BitVec.ofNat 32 (1000000 - n * 8192) := by
  have h1 : Scalar.muli (BitVec.ofNat 32 n) 8192#32 = BitVec.ofNat 32 (n * 8192) := WordCmp.muli_ofNat n 8192
  rw [h1]
  obtain ⟨k, hk⟩ : ∃ k, 1000000 = k + n * 8192 := ⟨1000000 - n * 8192, by omega⟩
  rw [show 1000000 - n * 8192 = k by omega, show (1000000#32 : BitVec 32) = BitVec.ofNat 32 k + BitVec.ofNat 32 (n * 8192) from
    (congrArg (BitVec.ofNat 32) hk).trans (WordCmp.addi_ofNat k (n * 8192)).symm]
  exact BitVec.add_sub_cancel _ _

/-- The body's mask turns a fetched block, whatever lies past its end, into the masked block. -/
theorem mask0 (V : Vals F) (t : Fin cfg0.N) (d : S16x8192.Idx → F .f32) :
    k0_pay2 (grid0.coords t) (win0_0.fill (grid0.coords t) d (blk0 V t)) = masked0 (V (dr main_v22)) t.val := by
  have hN : t.val < 123 := t.isLt
  obtain ⟨hx0, hx1⟩ := xsize0 t
  have e := index0_0
  funext j
  have hj : (j 1).val < 8192 := (j 1).isLt
  have hj0 : (j 0).val < 16 := (j 0).isLt
  unfold k0_pay2 masked0
  simp only [shapeCast_self, coords0, valid0 t.val hN]
  show Scalar.select (IntOp.cmpi .slt (BitVec.ofNat 32 (0 * 8192 + (j 1).val)) (BitVec.ofNat 32 (1000000 - t.val * 8192)))
    (win0_0.fill (grid0.coords t) d (blk0 V t) j) (Scalar.ofBits .f32 0x00000000#32) = _
  have hl1 : 0 * 8192 + (j 1).val < 2147483648 := by omega
  have hl2 : 1000000 - t.val * 8192 < 2147483648 := lt_of_le_of_lt (Nat.sub_le _ _) (by decide)
  have hiff : 0 * 8192 + (j 1).val < 1000000 - t.val * 8192 ↔ t.val * 8192 + (j 1).val < 1000000 := by
    clear hl1 hl2 hx0 hx1 e
    generalize (j 1).val = x
    generalize t.val = y
    omega
  by_cases h : t.val * 8192 + (j 1).val < 1000000
  · have hc : IntOp.cmpi .slt (BitVec.ofNat 32 (0 * 8192 + (j 1).val)) (BitVec.ofNat 32 (1000000 - t.val * 8192)) = 1#1 :=
      slt_one hl1 hl2 ((hiff).mpr h)
    rw [dif_pos h, WordCmp.select_of_eq_one hc]
    have hm : win0_0.moved (grid0.coords t) j = true := (win0_0.moved_iff _ _).mpr fun a => by
      fin_cases a
      · show (j 0).val < win0_0.xsize (grid0.coords t) 0; omega
      · show (j 1).val < win0_0.xsize (grid0.coords t) 1; omega
    unfold Pipeline.Window.fill
    rw [dif_pos hm]
    refine congrArg (V (dr main_v22)) ?_
    blk_ext [e, at2]
  · have hc : IntOp.cmpi .slt (BitVec.ofNat 32 (0 * 8192 + (j 1).val)) (BitVec.ofNat 32 (1000000 - t.val * 8192)) = 0#1 :=
      slt_zero hl1 hl2 fun h' => h (hiff.mp h')
    rw [dif_neg h, WordCmp.select_of_eq_zero hc]

/-- The repacked first table: row `1024 i + r` is row `r` of block `i`'s packing. -/
def sup0 (E : S128x128.Idx → F .f32) (t : S16x1000000.Idx → F .f32) : S125952x128.Idx → F .f32 := fun j =>
  pack E (masked0 t ((j 0).val / 1024)) (at2 ⟨(j 0).val % 1024, Nat.mod_lt _ (by decide)⟩ (j 1))

/-- The output array after every point's write-back. -/
theorem arr0 (V : Vals F) (c : Dev nD) : (dat0 V c).arrAt (2 : Fin 3) cfg0.N = sup0 (V (dr main_v21)) (V (dr main_v22)) := by
  have e := index0_2
  refine (dat0 V c).arrAt_eq_of_emb 2 _ (fun t _ y => ?_) fun i => ?_
  · have hN : t.val < 123 := t.isLt
    have h0 : (y 0).val < 1024 := (y 0).isLt
    have h1 : (y 1).val < 128 := (y 1).isLt
    have e0 : ((((cfg0.win 2).blk t).view.emb y) 0).val = t.val * 1024 + (y 0).val := by blk_simp [e]
    have e1 : ((((cfg0.win 2).blk t).view.emb y) 1).val = (y 1).val := by blk_simp [e]
    show pack (V (dr main_v21)) (masked0 (V (dr main_v22)) t.val) y = pack (V (dr main_v21)) (masked0 (V (dr main_v22)) _) _
    have e2 : ((((cfg0.win 2).blk t).view.emb y) 0).val / 1024 = t.val := by omega
    refine (congrArg (fun n => pack (V (dr main_v21)) (masked0 (V (dr main_v22)) n) y) e2.symm).trans ?_
    refine congrArg (pack (V (dr main_v21)) (masked0 (V (dr main_v22)) _)) (funext fun a => Fin.ext ?_)
    fin_cases a
    · show (y 0).val = ((((cfg0.win 2).blk t).view.emb y) 0).val % 1024
      omega
    · exact e1.symm
  · have hi0 : (i 0).val < 125952 := (i 0).isLt
    have hi1 : (i 1).val < 128 := (i 1).isLt
    refine ⟨⟨(i 0).val / 1024, show (i 0).val / 1024 < 123 by omega⟩, flush0_2 _, ?_⟩
    mem_blk [e]
    have hd : (⟨(i 0).val / 1024, show (i 0).val / 1024 < 123 by omega⟩ : Fin cfg0.N).val = (i 0).val / 1024 := rfl
    omega

/-- The body's obligation at every point. -/
theorem body0 (V : Vals F) (c : Dev nD) : BodyObligationLoose (dat0 V c) (defs₀ (F := F)) 𝒱₀ (none : HIx 1) Set.univ := fun t => by
  rw [bigSep_W0, bigSep_W0]
  simp only
  rw [show (dat0 V c).Φ t.succ = (dat0 V c).Φ t.castSucc from rfl,
    show (dat0 V c).owesAt none t.succ = (dat0 V c).owesAt none t.castSucc from rfl]
  iintro ⟨HΦ, Ho, ⟨%d0, H0⟩, ⟨%d1, H1⟩, ⟨%d2, H2⟩⟩
  rw [before0_0 V c t d0, before0_1 V c t d1]
  rw [show (defs₀ (F := F)) .tc cfg0.body (cfg0.bodyArgs t (cfg0.slots t)) = bodyAt0 t from rfl]
  iapply (wp_wand_r frame _ Set.univ)
  isplitl [H0 H1 H2]
  · iapply (repack0_body c (grid0.coords t) _ _ _ _ _ _ (win0_0.fill (grid0.coords t) d0 (blk0 V t)) (V (dr main_v21)) _)
    isplitl [H0]; · iexact H0
    isplitl [H1]; · iexact H1
    iexact H2
  iintro %a ⟨H0, H1, H2⟩
  isplitl [HΦ]; · iexact HΦ
  isplitl [Ho]; · iexact Ho
  isplitl [H0]
  · iexists d0
    change _ ⊢ owns (T c) (st0_0 t) fullShare (win0_0.fill (grid0.coords t) d0 (win0_0.cut (grid0.coords t)
      (win0_0.fill (grid0.coords t) (fun _ => Scalar.ofBits .f32 0x00000000#32) (blk0 V t))))
    rw [win0_0.cut_fill]; try iexact H0
  isplitl [H1]
  · change _ ⊢ owns (T c) (st0_1 t) fullShare ((win0_1.blk t).view.read (Elt F) (V (dr main_v21)))
    rw [whole0_1 V t]; try iexact H1
  · rw [mask0 V t d0]; iexact H2

end Cert.Proof.Run

end
-- ==== Proof.Repack1.lean ====
/-
  The second repacking call as a pipeline: what each grid point's body finds and leaves, and the whole array a run of all
  points leaves.
-/
module

public import proofs.«01_k».proof.Proof.Repack

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligationLoose arrRef)

variable {F : FTy → Type}

local notation "𝕄" => MT nD τ sig (HIx 1) (Elt F) ℕ UU ℕ
variable [FloatOps F]

/-! ## The second repack -/

/-- Block `i` of the transposed second table, with zeros past the table's last row. -/
def masked1 (t : S16x100000.Idx → F .f32) (i : ℕ) : FVec F S16x8192 .f32 := fun j =>
  if h : i * 8192 + (j 1).val < 100000 then t (at2 (j 0) ⟨i * 8192 + (j 1).val, h⟩) else Scalar.ofBits .f32 0x00000000#32

/-- The block the first window's fetch reads at point `t`. -/
def blk1 (V : Vals F) (t : Fin cfg1.N) : (win1_0.xblock (grid1.coords t)).Idx → Elt F .f32 :=
  (win1_0.blk t).view.read (Elt F) (V (dr main_v24))

/-- The proof data of the second repack, entered at contents `V`. -/
def dat1 (V : Vals F) (c : Dev nD) : Dat τ (Elt F) (HIx 1) ℕ UU ℕ cfg1 c where
  A w := V (dr (arrRef spec1 w))
  after w t := match w with
    | ⟨0, _⟩ => win1_0.fill (grid1.coords t) (fun _ => Scalar.ofBits .f32 0x00000000#32) (blk1 V t)
    | ⟨1, _⟩ => (win1_1.blk t).view.read (Elt F) (V (dr main_v21))
    | ⟨2, _⟩ => pack (V (dr main_v21)) (masked1 (V (dr main_v24)) t.val)
  Φ _ := Pipeline.scopedRest spec1 c
  q _ := fullShare
  owed _ := (K (F := F)).Otc c 0
  recorded _ := recs (F := F) c 0

theorem coords1 (t : Fin cfg1.N) : (grid1.coords t 0).val = t.val := by
  revert t; exact (by decide +kernel : ∀ t : Fin grid1.N, (grid1.coords t 0).val = t.val)

theorem index1_0 (t : Fin cfg1.N) : win1_0.index t = ![0, t.val] := by
  revert t; exact (by decide +kernel : ∀ t : Fin grid1.N, win1_0.index t = ![0, t.val])
theorem index1_1 (t : Fin cfg1.N) : win1_1.index t = ![0, 0] := by
  revert t; exact (by decide +kernel : ∀ t : Fin grid1.N, win1_1.index t = ![0, 0])
theorem index1_2 (t : Fin cfg1.N) : win1_2.index t = ![t.val, 0] := by
  revert t; exact (by decide +kernel : ∀ t : Fin grid1.N, win1_2.index t = ![t.val, 0])

/-- The second window's block is the whole matrix. -/
theorem whole1_1 (V : Vals F) (t : Fin cfg1.N) : (win1_1.blk t).view.read (Elt F) (V (dr main_v21)) = V (dr main_v21) := by
  have e := index1_1
  funext y
  refine congrArg (V (dr main_v21)) ?_
  blk_ext [e]

theorem before1_0 (V : Vals F) (c : Dev nD) (t : Fin cfg1.N) (d) :
    (dat1 V c).before (0 : Fin 3) t d = win1_0.fill (grid1.coords t) d (blk1 V t) :=
  (dat1 V c).before_fetched 0 t (fetch1_0 t) d
theorem before1_1 (V : Vals F) (c : Dev nD) (t : Fin cfg1.N) (d) : (dat1 V c).before (1 : Fin 3) t d = V (dr main_v21) :=
  ((dat1 V c).before_in_eq_fetched 1 rfl (fun _ => rfl) (fun _ _ _ => rfl) (fun _ => rfl) t d).trans (whole1_1 V t)

/-- How much of the first window's block the fetch at point `t` moves. -/
theorem xsize1 (t : Fin cfg1.N) : win1_0.xsize (grid1.coords t) 0 = 16
    ∧ t.val * 8192 + win1_0.xsize (grid1.coords t) 1 = min ((t.val + 1) * 8192) 100000 := by
  refine ⟨rfl, ?_⟩
  have hN : t.val < 13 := t.isLt
  have e : win1_0.index t 1 = t.val := by rw [index1_0 t]; rfl
  show t.val * 8192 + Pipeline.Clip.extent (Pipeline.Clip.of (win1_0.index t 1) 8192 100000) 8192 = _
  rw [e]
  unfold Pipeline.Clip.of
  split
  · show t.val * 8192 + 8192 = _; omega
  · show t.val * 8192 + (100000 - t.val * 8192) = _; omega

/-- The number of table rows from block `t` on, as the body's word arithmetic has it. -/
theorem valid1 (n : ℕ) (hn : n < 13) :
    Scalar.subi (100000#32) (Scalar.muli (BitVec.ofNat 32 n) 8192#32) = BitVec.ofNat 32 (100000 - n * 8192) := by
  have h1 : Scalar.muli (BitVec.ofNat 32 n) 8192#32 = BitVec.ofNat 32 (n * 8192) := WordCmp.muli_ofNat n 8192
  rw [h1]
  obtain ⟨k, hk⟩ : ∃ k, 100000 = k + n * 8192 := ⟨100000 - n * 8192, by omega⟩
  rw [show 100000 - n * 8192 = k by omega, show (100000#32 : BitVec 32) = BitVec.ofNat 32 k + BitVec.ofNat 32 (n * 8192) from
    (congrArg (BitVec.ofNat 32) hk).trans (WordCmp.addi_ofNat k (n * 8192)).symm]
  exact BitVec.add_sub_cancel _ _

/-- The body's mask turns a fetched block, whatever lies past its end, into the masked block. -/
theorem mask1 (V : Vals F) (t : Fin cfg1.N) (d : S16x8192.Idx → F .f32) :
    k1_pay2 (grid1.coords t) (win1_0.fill (grid1.coords t) d (blk1 V t)) = masked1 (V (dr main_v24)) t.val := by
  have hN : t.val < 13 := t.isLt
  obtain ⟨hx0, hx1⟩ := xsize1 t
  have e := index1_0
  funext j
  have hj : (j 1).val < 8192 := (j 1).isLt
  have hj0 : (j 0).val < 16 := (j 0).isLt
  unfold k1_pay2 masked1
  simp only [shapeCast_self, coords1, valid1 t.val hN]
  show Scalar.select (IntOp.cmpi .slt (BitVec.ofNat 32 (0 * 8192 + (j 1).val)) (BitVec.ofNat 32 (100000 - t.val * 8192)))
    (win1_0.fill (grid1.coords t) d (blk1 V t) j) (Scalar.ofBits .f32 0x00000000#32) = _
  have hl1 : 0 * 8192 + (j 1).val < 2147483648 := by omega
  have hl2 : 100000 - t.val * 8192 < 2147483648 := lt_of_le_of_lt (Nat.sub_le _ _) (by decide)
  have hiff : 0 * 8192 + (j 1).val < 100000 - t.val * 8192 ↔ t.val * 8192 + (j 1).val < 100000 := by
    clear hl1 hl2 hx0 hx1 e
    generalize (j 1).val = x
    generalize t.val = y
    omega
  by_cases h : t.val * 8192 + (j 1).val < 100000
  · have hc : IntOp.cmpi .slt (BitVec.ofNat 32 (0 * 8192 + (j 1).val)) (BitVec.ofNat 32 (100000 - t.val * 8192)) = 1#1 :=
      slt_one hl1 hl2 ((hiff).mpr h)
    rw [dif_pos h, WordCmp.select_of_eq_one hc]
    have hm : win1_0.moved (grid1.coords t) j = true := (win1_0.moved_iff _ _).mpr fun a => by
      fin_cases a
      · show (j 0).val < win1_0.xsize (grid1.coords t) 0; omega
      · show (j 1).val < win1_0.xsize (grid1.coords t) 1; omega
    unfold Pipeline.Window.fill
    rw [dif_pos hm]
    refine congrArg (V (dr main_v24)) ?_
    blk_ext [e, at2]
  · have hc : IntOp.cmpi .slt (BitVec.ofNat 32 (0 * 8192 + (j 1).val)) (BitVec.ofNat 32 (100000 - t.val * 8192)) = 0#1 :=
      slt_zero hl1 hl2 fun h' => h (hiff.mp h')
    rw [dif_neg h, WordCmp.select_of_eq_zero hc]

/-- The repacked second table: row `1024 i + r` is row `r` of block `i`'s packing. -/
def sup1 (E : S128x128.Idx → F .f32) (t : S16x100000.Idx → F .f32) : S13312x128.Idx → F .f32 := fun j =>
  pack E (masked1 t ((j 0).val / 1024)) (at2 ⟨(j 0).val % 1024, Nat.mod_lt _ (by decide)⟩ (j 1))

/-- The output array after every point's write-back. -/
theorem arr1 (V : Vals F) (c : Dev nD) : (dat1 V c).arrAt (2 : Fin 3) cfg1.N = sup1 (V (dr main_v21)) (V (dr main_v24)) := by
  have e := index1_2
  refine (dat1 V c).arrAt_eq_of_emb 2 _ (fun t _ y => ?_) fun i => ?_
  · have hN : t.val < 13 := t.isLt
    have h0 : (y 0).val < 1024 := (y 0).isLt
    have h1 : (y 1).val < 128 := (y 1).isLt
    have e0 : ((((cfg1.win 2).blk t).view.emb y) 0).val = t.val * 1024 + (y 0).val := by blk_simp [e]
    have e1 : ((((cfg1.win 2).blk t).view.emb y) 1).val = (y 1).val := by blk_simp [e]
    show pack (V (dr main_v21)) (masked1 (V (dr main_v24)) t.val) y = pack (V (dr main_v21)) (masked1 (V (dr main_v24)) _) _
    have e2 : ((((cfg1.win 2).blk t).view.emb y) 0).val / 1024 = t.val := by omega
    refine (congrArg (fun n => pack (V (dr main_v21)) (masked1 (V (dr main_v24)) n) y) e2.symm).trans ?_
    refine congrArg (pack (V (dr main_v21)) (masked1 (V (dr main_v24)) _)) (funext fun a => Fin.ext ?_)
    fin_cases a
    · show (y 0).val = ((((cfg1.win 2).blk t).view.emb y) 0).val % 1024
      omega
    · exact e1.symm
  · have hi0 : (i 0).val < 13312 := (i 0).isLt
    have hi1 : (i 1).val < 128 := (i 1).isLt
    refine ⟨⟨(i 0).val / 1024, show (i 0).val / 1024 < 13 by omega⟩, flush1_2 _, ?_⟩
    mem_blk [e]
    have hd : (⟨(i 0).val / 1024, show (i 0).val / 1024 < 13 by omega⟩ : Fin cfg1.N).val = (i 0).val / 1024 := rfl
    omega

/-- The body's obligation at every point. -/
theorem body1 (V : Vals F) (c : Dev nD) : BodyObligationLoose (dat1 V c) (defs₀ (F := F)) 𝒱₀ (none : HIx 1) Set.univ := fun t => by
  rw [bigSep_W1, bigSep_W1]
  simp only
  rw [show (dat1 V c).Φ t.succ = (dat1 V c).Φ t.castSucc from rfl,
    show (dat1 V c).owesAt none t.succ = (dat1 V c).owesAt none t.castSucc from rfl]
  iintro ⟨HΦ, Ho, ⟨%d0, H0⟩, ⟨%d1, H1⟩, ⟨%d2, H2⟩⟩
  rw [before1_0 V c t d0, before1_1 V c t d1]
  rw [show (defs₀ (F := F)) .tc cfg1.body (cfg1.bodyArgs t (cfg1.slots t)) = bodyAt1 t from rfl]
  iapply (wp_wand_r frame _ Set.univ)
  isplitl [H0 H1 H2]
  · iapply (repack1_body c (grid1.coords t) _ _ _ _ _ _ (win1_0.fill (grid1.coords t) d0 (blk1 V t)) (V (dr main_v21)) _)
    isplitl [H0]; · iexact H0
    isplitl [H1]; · iexact H1
    iexact H2
  iintro %a ⟨H0, H1, H2⟩
  isplitl [HΦ]; · iexact HΦ
  isplitl [Ho]; · iexact Ho
  isplitl [H0]
  · iexists d0
    change _ ⊢ owns (T c) (st1_0 t) fullShare (win1_0.fill (grid1.coords t) d0 (win1_0.cut (grid1.coords t)
      (win1_0.fill (grid1.coords t) (fun _ => Scalar.ofBits .f32 0x00000000#32) (blk1 V t))))
    rw [win1_0.cut_fill]; try iexact H0
  isplitl [H1]
  · change _ ⊢ owns (T c) (st1_1 t) fullShare ((win1_1.blk t).view.read (Elt F) (V (dr main_v21)))
    rw [whole1_1 V t]; try iexact H1
  · rw [mask1 V t d0]; iexact H2

end Cert.Proof.Run

end
-- ==== Proof.Mlp.lean ====
/-
  The perceptron's call as a pipeline: what each grid point's body finds and leaves, and the whole array a run of all
  points leaves.
-/
module

public import proofs.«01_k».proof.Proof.Repack1

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligationLoose arrRef)

variable {F : FTy → Type}

local notation "𝕄" => MT nD τ sig (HIx 1) (Elt F) ℕ UU ℕ
variable [FloatOps F]

/-! ## The perceptron -/

/-- Rows `4096 b` to `4096 b + 4095` of an array of 16384 rows. -/
def rows {α : Type} {n : ℕ} (b : Fin 4) (f : (⟨2, ![16384, n]⟩ : Shape).Idx → α) : (⟨2, ![4096, n]⟩ : Shape).Idx → α := fun y =>
  f (at2 ⟨4096 * b.val + (y 0).val, by have h : (y 0).val < 4096 := (y 0).isLt; have := b.isLt; omega⟩ (y 1))

/-- A grid point as the number of its block. -/
def bk (t : Fin cfg3.N) : Fin 4 := ⟨t.val, t.isLt⟩

/-- What the perceptron computes at block `b`. -/
def mlpBlock (V : Vals F) (b : Fin 4) : FVec F S4096x1 .f32 :=
  mlpOf (rows b (V (dr main_v26_0))) (rows b (V (dr main_v26_1))) (rows b (V (dr main_v7))) (rows b (V (dr main_v15)))
    (V (dr main_v31)) (V (dr main_v36)) (V (dr main_v39)) (V (dr main_v37)) (V (dr main_v40)) (V (dr main_v38)) (V (dr main_v41))

/-- The perceptron's result for every row of the batch. -/
def mlpAll (V : Vals F) : S16384x1.Idx → F .f32 := fun j =>
  mlpBlock V ⟨(j 0).val / 4096, by have h : (j 0).val < 16384 := (j 0).isLt; omega⟩ (at2 ⟨(j 0).val % 4096, Nat.mod_lt _ (by decide)⟩ (j 1))

/-- The proof data of the perceptron's call, entered at contents `V`. -/
def dat3 (V : Vals F) (c : Dev nD) : Dat τ (Elt F) (HIx 1) ℕ UU ℕ cfg3 c where
  A w := V (dr (arrRef spec3 w))
  after w t := match w with
    | ⟨0, _⟩ => (win3_0.blk t).view.read (Elt F) (V (dr main_v26_0))
    | ⟨1, _⟩ => (win3_1.blk t).view.read (Elt F) (V (dr main_v26_1))
    | ⟨2, _⟩ => (win3_2.blk t).view.read (Elt F) (V (dr main_v7))
    | ⟨3, _⟩ => (win3_3.blk t).view.read (Elt F) (V (dr main_v15))
    | ⟨4, _⟩ => (win3_4.blk t).view.read (Elt F) (V (dr main_v31))
    | ⟨5, _⟩ => (win3_5.blk t).view.read (Elt F) (V (dr main_v36))
    | ⟨6, _⟩ => (win3_6.blk t).view.read (Elt F) (V (dr main_v39))
    | ⟨7, _⟩ => (win3_7.blk t).view.read (Elt F) (V (dr main_v37))
    | ⟨8, _⟩ => (win3_8.blk t).view.read (Elt F) (V (dr main_v40))
    | ⟨9, _⟩ => (win3_9.blk t).view.read (Elt F) (V (dr main_v38))
    | ⟨10, _⟩ => (win3_10.blk t).view.read (Elt F) (V (dr main_v41))
    | ⟨11, _⟩ => mlpBlock V (bk t)
  Φ _ := Pipeline.scopedRest spec3 c
  q _ := fullShare
  owed _ := (K (F := F)).Otc c 1
  recorded _ := recs (F := F) c 8

theorem index3_0 (t : Fin cfg3.N) : win3_0.index t = ![t.val, 0] := by
  revert t; exact (by decide +kernel : ∀ t : Fin grid3.N, win3_0.index t = ![t.val, 0])
theorem block3_0 (V : Vals F) (t : Fin cfg3.N) : (win3_0.blk t).view.read (Elt F) (V (dr main_v26_0)) = rows (bk t) (V (dr main_v26_0)) := by
  have e := index3_0
  funext y
  refine congrArg (V (dr main_v26_0)) ?_
  blk_ext [e, at2, bk]
theorem before3_0 (V : Vals F) (c : Dev nD) (t : Fin cfg3.N) (d) : (dat3 V c).before (0 : Fin 12) t d = rows (bk t) (V (dr main_v26_0)) :=
  ((dat3 V c).before_fetched 0 t (fetch3_0 t) d).trans (block3_0 V t)
theorem index3_1 (t : Fin cfg3.N) : win3_1.index t = ![t.val, 0] := by
  revert t; exact (by decide +kernel : ∀ t : Fin grid3.N, win3_1.index t = ![t.val, 0])
theorem block3_1 (V : Vals F) (t : Fin cfg3.N) : (win3_1.blk t).view.read (Elt F) (V (dr main_v26_1)) = rows (bk t) (V (dr main_v26_1)) := by
  have e := index3_1
  funext y
  refine congrArg (V (dr main_v26_1)) ?_
  blk_ext [e, at2, bk]
theorem before3_1 (V : Vals F) (c : Dev nD) (t : Fin cfg3.N) (d) : (dat3 V c).before (1 : Fin 12) t d = rows (bk t) (V (dr main_v26_1)) :=
  ((dat3 V c).before_fetched 1 t (fetch3_1 t) d).trans (block3_1 V t)
theorem index3_2 (t : Fin cfg3.N) : win3_2.index t = ![t.val, 0] := by
  revert t; exact (by decide +kernel : ∀ t : Fin grid3.N, win3_2.index t = ![t.val, 0])
theorem block3_2 (V : Vals F) (t : Fin cfg3.N) : (win3_2.blk t).view.read (Elt F) (V (dr main_v7)) = rows (bk t) (V (dr main_v7)) := by
  have e := index3_2
  funext y
  refine congrArg (V (dr main_v7)) ?_
  blk_ext [e, at2, bk]
theorem before3_2 (V : Vals F) (c : Dev nD) (t : Fin cfg3.N) (d) : (dat3 V c).before (2 : Fin 12) t d = rows (bk t) (V (dr main_v7)) :=
  ((dat3 V c).before_fetched 2 t (fetch3_2 t) d).trans (block3_2 V t)
theorem index3_3 (t : Fin cfg3.N) : win3_3.index t = ![t.val, 0] := by
  revert t; exact (by decide +kernel : ∀ t : Fin grid3.N, win3_3.index t = ![t.val, 0])
theorem block3_3 (V : Vals F) (t : Fin cfg3.N) : (win3_3.blk t).view.read (Elt F) (V (dr main_v15)) = rows (bk t) (V (dr main_v15)) := by
  have e := index3_3
  funext y
  refine congrArg (V (dr main_v15)) ?_
  blk_ext [e, at2, bk]
theorem before3_3 (V : Vals F) (c : Dev nD) (t : Fin cfg3.N) (d) : (dat3 V c).before (3 : Fin 12) t d = rows (bk t) (V (dr main_v15)) :=
  ((dat3 V c).before_fetched 3 t (fetch3_3 t) d).trans (block3_3 V t)
theorem index3_4 (t : Fin cfg3.N) : win3_4.index t = ![0, 0] := by
  revert t; exact (by decide +kernel : ∀ t : Fin grid3.N, win3_4.index t = ![0, 0])
theorem block3_4 (V : Vals F) (t : Fin cfg3.N) : (win3_4.blk t).view.read (Elt F) (V (dr main_v31)) = V (dr main_v31) := by
  have e := index3_4
  funext y
  refine congrArg (V (dr main_v31)) ?_
  blk_ext [e]
theorem before3_4 (V : Vals F) (c : Dev nD) (t : Fin cfg3.N) (d) : (dat3 V c).before (4 : Fin 12) t d = V (dr main_v31) :=
  ((dat3 V c).before_in_eq_fetched 4 rfl (fun _ => rfl) (fun _ _ _ => rfl) (fun _ => rfl) t d).trans (block3_4 V t)
theorem index3_5 (t : Fin cfg3.N) : win3_5.index t = ![0, 0] := by
  revert t; exact (by decide +kernel : ∀ t : Fin grid3.N, win3_5.index t = ![0, 0])
theorem block3_5 (V : Vals F) (t : Fin cfg3.N) : (win3_5.blk t).view.read (Elt F) (V (dr main_v36)) = V (dr main_v36) := by
  have e := index3_5
  funext y
  refine congrArg (V (dr main_v36)) ?_
  blk_ext [e]
theorem before3_5 (V : Vals F) (c : Dev nD) (t : Fin cfg3.N) (d) : (dat3 V c).before (5 : Fin 12) t d = V (dr main_v36) :=
  ((dat3 V c).before_in_eq_fetched 5 rfl (fun _ => rfl) (fun _ _ _ => rfl) (fun _ => rfl) t d).trans (block3_5 V t)
theorem index3_6 (t : Fin cfg3.N) : win3_6.index t = ![0, 0] := by
  revert t; exact (by decide +kernel : ∀ t : Fin grid3.N, win3_6.index t = ![0, 0])
theorem block3_6 (V : Vals F) (t : Fin cfg3.N) : (win3_6.blk t).view.read (Elt F) (V (dr main_v39)) = V (dr main_v39) := by
  have e := index3_6
  funext y
  refine congrArg (V (dr main_v39)) ?_
  blk_ext [e]
theorem before3_6 (V : Vals F) (c : Dev nD) (t : Fin cfg3.N) (d) : (dat3 V c).before (6 : Fin 12) t d = V (dr main_v39) :=
  ((dat3 V c).before_in_eq_fetched 6 rfl (fun _ => rfl) (fun _ _ _ => rfl) (fun _ => rfl) t d).trans (block3_6 V t)
theorem index3_7 (t : Fin cfg3.N) : win3_7.index t = ![0, 0] := by
  revert t; exact (by decide +kernel : ∀ t : Fin grid3.N, win3_7.index t = ![0, 0])
theorem block3_7 (V : Vals F) (t : Fin cfg3.N) : (win3_7.blk t).view.read (Elt F) (V (dr main_v37)) = V (dr main_v37) := by
  have e := index3_7
  funext y
  refine congrArg (V (dr main_v37)) ?_
  blk_ext [e]
theorem before3_7 (V : Vals F) (c : Dev nD) (t : Fin cfg3.N) (d) : (dat3 V c).before (7 : Fin 12) t d = V (dr main_v37) :=
  ((dat3 V c).before_in_eq_fetched 7 rfl (fun _ => rfl) (fun _ _ _ => rfl) (fun _ => rfl) t d).trans (block3_7 V t)
theorem index3_8 (t : Fin cfg3.N) : win3_8.index t = ![0, 0] := by
  revert t; exact (by decide +kernel : ∀ t : Fin grid3.N, win3_8.index t = ![0, 0])
theorem block3_8 (V : Vals F) (t : Fin cfg3.N) : (win3_8.blk t).view.read (Elt F) (V (dr main_v40)) = V (dr main_v40) := by
  have e := index3_8
  funext y
  refine congrArg (V (dr main_v40)) ?_
  blk_ext [e]
theorem before3_8 (V : Vals F) (c : Dev nD) (t : Fin cfg3.N) (d) : (dat3 V c).before (8 : Fin 12) t d = V (dr main_v40) :=
  ((dat3 V c).before_in_eq_fetched 8 rfl (fun _ => rfl) (fun _ _ _ => rfl) (fun _ => rfl) t d).trans (block3_8 V t)
theorem index3_9 (t : Fin cfg3.N) : win3_9.index t = ![0, 0] := by
  revert t; exact (by decide +kernel : ∀ t : Fin grid3.N, win3_9.index t = ![0, 0])
theorem block3_9 (V : Vals F) (t : Fin cfg3.N) : (win3_9.blk t).view.read (Elt F) (V (dr main_v38)) = V (dr main_v38) := by
  have e := index3_9
  funext y
  refine congrArg (V (dr main_v38)) ?_
  blk_ext [e]
theorem before3_9 (V : Vals F) (c : Dev nD) (t : Fin cfg3.N) (d) : (dat3 V c).before (9 : Fin 12) t d = V (dr main_v38) :=
  ((dat3 V c).before_in_eq_fetched 9 rfl (fun _ => rfl) (fun _ _ _ => rfl) (fun _ => rfl) t d).trans (block3_9 V t)
theorem index3_10 (t : Fin cfg3.N) : win3_10.index t = ![0, 0] := by
  revert t; exact (by decide +kernel : ∀ t : Fin grid3.N, win3_10.index t = ![0, 0])
theorem block3_10 (V : Vals F) (t : Fin cfg3.N) : (win3_10.blk t).view.read (Elt F) (V (dr main_v41)) = V (dr main_v41) := by
  have e := index3_10
  funext y
  refine congrArg (V (dr main_v41)) ?_
  blk_ext [e]
theorem before3_10 (V : Vals F) (c : Dev nD) (t : Fin cfg3.N) (d) : (dat3 V c).before (10 : Fin 12) t d = V (dr main_v41) :=
  ((dat3 V c).before_in_eq_fetched 10 rfl (fun _ => rfl) (fun _ _ _ => rfl) (fun _ => rfl) t d).trans (block3_10 V t)
theorem index3_11 (t : Fin cfg3.N) : win3_11.index t = ![t.val, 0] := by
  revert t; exact (by decide +kernel : ∀ t : Fin grid3.N, win3_11.index t = ![t.val, 0])

/-- The output array after every point's write-back. -/
theorem arr3 (V : Vals F) (c : Dev nD) : (dat3 V c).arrAt (11 : Fin 12) cfg3.N = mlpAll V := by
  have e := index3_11
  refine (dat3 V c).arrAt_eq_of_emb 11 _ (fun t _ y => ?_) fun i => ?_
  · have hN : t.val < 4 := t.isLt
    have h0 : (y 0).val < 4096 := (y 0).isLt
    have e0 : ((((cfg3.win 11).blk t).view.emb y) 0).val = t.val * 4096 + (y 0).val := by blk_simp [e]
    have e1 : ((((cfg3.win 11).blk t).view.emb y) 1).val = (y 1).val := by blk_simp [e]
    show mlpBlock V (bk t) y = mlpBlock V _ _
    have e2 : ((((cfg3.win 11).blk t).view.emb y) 0).val / 4096 = t.val := by omega
    have e3 : bk t = (⟨((((cfg3.win 11).blk t).view.emb y) 0).val / 4096, by omega⟩ : Fin 4) := Fin.ext e2.symm
    refine (congrArg (fun n => mlpBlock V n y) e3).trans ?_
    refine congrArg (mlpBlock V _) (funext fun a => Fin.ext ?_)
    fin_cases a
    · show (y 0).val = ((((cfg3.win 11).blk t).view.emb y) 0).val % 4096
      omega
    · exact e1.symm
  · have hi0 : (i 0).val < 16384 := (i 0).isLt
    have hi1 : (i 1).val < 1 := (i 1).isLt
    refine ⟨⟨(i 0).val / 4096, show (i 0).val / 4096 < 4 by omega⟩, flush3_11 _, ?_⟩
    mem_blk [e]
    have hd : (⟨(i 0).val / 4096, show (i 0).val / 4096 < 4 by omega⟩ : Fin cfg3.N).val = (i 0).val / 4096 := rfl
    omega

/-- The body's obligation at every point. -/
theorem body3 (V : Vals F) (c : Dev nD) : BodyObligationLoose (dat3 V c) (defs₀ (F := F)) 𝒱₀ (none : HIx 1) Set.univ := fun t => by
  rw [bigSep_W3, bigSep_W3]
  simp only
  rw [show (dat3 V c).Φ t.succ = (dat3 V c).Φ t.castSucc from rfl,
    show (dat3 V c).owesAt none t.succ = (dat3 V c).owesAt none t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before3_0 V c t d0, before3_1 V c t d1, before3_2 V c t d2, before3_3 V c t d3, before3_4 V c t d4, before3_5 V c t d5, before3_6 V c t d6, before3_7 V c t d7, before3_8 V c t d8, before3_9 V c t d9, before3_10 V c t d10]
  rw [show (defs₀ (F := F)) .tc cfg3.body (cfg3.bodyArgs t (cfg3.slots t)) = bodyAt3 t from rfl]
  iapply (wp_wand_r frame _ Set.univ)
  isplitl [H0 H1 H2 H3 H4 H5 H6 H7 H8 H9 H10 H11]
  · iapply (mlp_body c (grid3.coords t) _ _ _ _ _ _ _ _ _ _ _ _ _ _ _ _ _ _ _ _ _ _ _ _
      (rows (bk t) (V (dr main_v26_0))) (rows (bk t) (V (dr main_v26_1))) (rows (bk t) (V (dr main_v7))) (rows (bk t) (V (dr main_v15))) (V (dr main_v31)) (V (dr main_v36)) (V (dr main_v39)) (V (dr main_v37)) (V (dr main_v40)) (V (dr main_v38)) (V (dr main_v41)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iintro %a ⟨H0, H1, H2, H3, H4, H5, H6, H7, H8, H9, H10, H11⟩
  isplitl [HΦ]; · iexact HΦ
  isplitl [Ho]; · iexact Ho
  isplitl [H0]
  · change _ ⊢ owns (T c) (st3_0 t) fullShare ((win3_0.blk t).view.read (Elt F) (V (dr main_v26_0)))
    rw [block3_0 V t]; try iexact H0
  isplitl [H1]
  · change _ ⊢ owns (T c) (st3_1 t) fullShare ((win3_1.blk t).view.read (Elt F) (V (dr main_v26_1)))
    rw [block3_1 V t]; try iexact H1
  isplitl [H2]
  · change _ ⊢ owns (T c) (st3_2 t) fullShare ((win3_2.blk t).view.read (Elt F) (V (dr main_v7)))
    rw [block3_2 V t]; try iexact H2
  isplitl [H3]
  · change _ ⊢ owns (T c) (st3_3 t) fullShare ((win3_3.blk t).view.read (Elt F) (V (dr main_v15)))
    rw [block3_3 V t]; try iexact H3
  isplitl [H4]
  · change _ ⊢ owns (T c) (st3_4 t) fullShare ((win3_4.blk t).view.read (Elt F) (V (dr main_v31)))
    rw [block3_4 V t]; try iexact H4
  isplitl [H5]
  · change _ ⊢ owns (T c) (st3_5 t) fullShare ((win3_5.blk t).view.read (Elt F) (V (dr main_v36)))
    rw [block3_5 V t]; try iexact H5
  isplitl [H6]
  · change _ ⊢ owns (T c) (st3_6 t) fullShare ((win3_6.blk t).view.read (Elt F) (V (dr main_v39)))
    rw [block3_6 V t]; try iexact H6
  isplitl [H7]
  · change _ ⊢ owns (T c) (st3_7 t) fullShare ((win3_7.blk t).view.read (Elt F) (V (dr main_v37)))
    rw [block3_7 V t]; try iexact H7
  isplitl [H8]
  · change _ ⊢ owns (T c) (st3_8 t) fullShare ((win3_8.blk t).view.read (Elt F) (V (dr main_v40)))
    rw [block3_8 V t]; try iexact H8
  isplitl [H9]
  · change _ ⊢ owns (T c) (st3_9 t) fullShare ((win3_9.blk t).view.read (Elt F) (V (dr main_v38)))
    rw [block3_9 V t]; try iexact H9
  isplitl [H10]
  · change _ ⊢ owns (T c) (st3_10 t) fullShare ((win3_10.blk t).view.read (Elt F) (V (dr main_v41)))
    rw [block3_10 V t]; try iexact H10
  iexact H11

end Cert.Proof.Run

end
-- ==== Proof.Regions.lean ====
/-
  The three TensorCore calls as regions of the launch's main function: each is entered with its arrays at given contents
  and left with the output array at the computed contents, keeping what the TensorCore owes the SparseCores.
-/
module

public import proofs.«01_k».proof.Proof.Mlp

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligationLoose arrRef)

variable {F : FTy → Type}

local notation "𝕄" => MT nD τ sig (HIx 1) (Elt F) ℕ UU ℕ
variable [FloatOps F]

/-- The three pipelines' proof data, entered at contents `V0`, `V1` and `V3`. -/
def pdats (V0 V1 V3 : Dev nD → Vals F) : (p : Fin 3) → (c : Dev nD) →
    Dat τ (Elt F) (HIx 1) ℕ UU ℕ (Pipeline.pin (pcfgs (F := F)) adm p) c
  | ⟨0, _⟩, c => dat0 (V0 c) c
  | ⟨1, _⟩, c => dat1 (V1 c) c
  | ⟨2, _⟩, c => dat3 (V3 c) c

/-- A region of the main function around the `n`-th handshake: from its arrays at contents `W`, to its arrays at contents `W'`. -/
def region (V0 V1 V3 : Dev nD → Vals F) (p : Fin 3) (kit : Pipeline.PLaunchFacts (nD := nD) (τ := τ) (pcfgs (F := F)) p) (n : ℕ)
    (hbody : ∀ c, BodyObligationLoose (pdats V0 V1 V3 p c) (defs₀ (F := F)) 𝒱₀ (none : HIx 1) Set.univ)
    (howed : ∀ c t, (pdats V0 V1 V3 p c).owed t = (K (F := F)).Otc c n)
    (hrec : ∀ c t, (pdats V0 V1 V3 p c).recorded t = recs (F := F) c (8 * n))
    (hshare : ∀ c w, (pdats V0 V1 V3 p c).share w = fullShare)
    (hΦ : ∀ c t, (pdats V0 V1 V3 p c).Φ t = Pipeline.scopedRest (cfgs p).spec c)
    (W W' : Dev nD → Vals F)
    (hW : ∀ c w, (pdats V0 V1 V3 p c).arrAt w 0 = W c (dr (arrRef (Pipeline.pin (pcfgs (F := F)) adm p).spec w)))
    (hW' : ∀ c w, (pdats V0 V1 V3 p c).arrAt w (Pipeline.pin (pcfgs (F := F)) adm p).N
      = W' c (dr (arrRef (Pipeline.pin (pcfgs (F := F)) adm p).spec w))) :
    Pipeline.RegionSeg (pcfgs (F := F)) adm (pdats V0 V1 V3) (none : HIx 1) (defs₀ (F := F)) 𝒱₀ (K (F := F)).L (K (F := F)).lev p where
  win := kit.to₀.win
  block_pos := kit.to₀.block_pos
  stage_whole := kit.to₀.stage_whole
  K := PEmpty
  osem k := k.elim
  ho := Pipeline.OwnSemFacts.none _
  hbody := hbody
  hwaits c := Pipeline.cellsWaits_of_cut (Pipeline.pin (pcfgs (F := F)) adm) (pdats V0 V1 V3) none p c (8 * n) ((K (F := F)).Otc c n)
    (howed c) (fun _ _ => Finset.mem_univ _) (fun _ _ => Nat.zero_le _)
    (fun g i h => ⟨Finset.mem_univ _, lt_of_lt_of_le (Nat.lt_succ_self _) ((K (F := F)).lev_of_Otc_pos h)⟩)
  pre c := iprop(StableHlo.held (T c) (Pipeline.arrRefs (pcfgs (F := F) p).spec) (W c)
    ∗ ∃ Wd, ⌜(K (F := F)).WBelow (T c) Wd (8 * n)⌝ ∗ owes (T c) ((K (F := F)).Otc c n) Wd)
  post c := iprop(StableHlo.held (T c) (Pipeline.arrRefs (pcfgs (F := F) p).spec) (W' c)
    ∗ ∃ Wd, ⌜(K (F := F)).WBelow (T c) Wd (8 * n)⌝ ∗ owes (T c) ((K (F := F)).Otc c n) Wd)
  X _ := BI.emp
  Y _ := BI.emp
  Z _ := BI.emp
  hentry c := by
    rw [← Pipeline.arrays_held (pcfgs (F := F)) adm (pdats V0 V1 V3) p kit c (hshare c) ((pdats V0 V1 V3 p c).arrAt · 0) (W c) (hW c),
      Pipeline.ownSems0_none, Pipeline.prefHeld_of_none _ rfl]
    iintro ⟨⟨Ha, HO⟩, -, -⟩
    imodintro
    isplitl [Ha]; · iexact Ha
    isplitr; · iempintro
    isplitl [HO]
    · unfold Dat.owesAt Pipeline.owesWithin Dat.bound
      rw [howed c 0, hrec c 0]
      icases HO with ⟨%Wd, %hWd, HO⟩; iexists Wd; isplitr; · ipureintro; exact fun q hq => Or.inl (hWd q hq)
      iexact HO
    isplitr <;> iempintro
  hin c := by
    rw [hΦ c 0]
    iintro ⟨-, -, Hr⟩; iexact Hr
  hout c := by
    rw [hΦ c _, Pipeline.ownSems0_none]
    iintro Hr
    isplitr; · iempintro
    isplitr; · iempintro
    iexact Hr
  hexit c := by
    rw [← Pipeline.arrays_held (pcfgs (F := F)) adm (pdats V0 V1 V3) p kit c (hshare c)
      ((pdats V0 V1 V3 p c).arrAt · (Pipeline.pin (pcfgs (F := F)) adm p).N) (W' c) (hW' c)]
    iintro ⟨Ha, HO, -, -⟩
    imodintro
    isplitl [Ha]; · iexact Ha
    unfold Dat.owesAt Pipeline.owesWithin Dat.bound
    rw [howed c (Fin.last _), hrec c (Fin.last _)]
    icases HO with ⟨%Wd, %hWd, HO⟩; iexists Wd; isplitr
    · ipureintro
      intro q hq
      rcases hWd hq with h | ⟨w, s, rfl⟩
      · exact h
      · exact Nat.zero_le _
    iexact HO

end Cert.Proof.Run

end
-- ==== Proof.Host.lean ====
/-
  The host operations of the launch's main function, as straight lines: what each line writes, and the main function as
  these lines around its four calls.
-/
module

public import proofs.«01_k».proof.Proof.Regions

@[expose] public section

set_option maxRecDepth 8192

noncomputable section

namespace Cert.Proof.Run

open Cert.KernelIdeal Cert.KernelIdeal.Gen

open Idealize.ShloMosaic Idealize.ShloMosaic.StableHlo
open Idealize.ShloMosaic.SparseCore (S V T)
open Idealize.SL Idealize.SL.Sem

variable {F : FTy → Type}
variable [FloatOps F]

/-- Host operations: the super-table row of every user. -/
abbrev segUidx : List (HloOp τ sig (Elt F)) :=
  [ nullary main_c (constantI S_ 32 8192#32),
    TRef.unary (.of main_c) (.of main_call0_v0) id,
    TRef.unary (.of main_call0_v0) (.of main_call0_v1) (broadcastInDim S16384 ![] bcast_S_S16384),
    TRef.binary (.of main_arg0) (.of main_call0_v1) (.of main_call0_v2) Host.divsi,
    TRef.unary (.of main_arg0) (.of main_call0_v3) signi,
    TRef.unary (.of main_call0_v0) (.of main_call0_v4) signi,
    TRef.unary (.of main_call0_v4) (.of main_call0_v5) (broadcastInDim S16384 ![] bcast_S_S16384),
    TRef.binary (.of main_call0_v3) (.of main_call0_v5) (.of main_call0_v6) (cmpi .ne),
    TRef.unary (.of main_call0_v0) (.of main_call0_v7) (broadcastInDim S16384 ![] bcast_S_S16384),
    TRef.binary (.of main_arg0) (.of main_call0_v7) (.of main_call0_v8) Host.remsi,
    TRef.nullary (.of main_call0_c) (constantI S_ 32 0#32),
    TRef.unary (.of main_call0_c) (.of main_call0_v9) (broadcastInDim S16384 ![] bcast_S_S16384),
    TRef.binary (.of main_call0_v8) (.of main_call0_v9) (.of main_call0_v10) (cmpi .ne),
    TRef.binary (.of main_call0_v6) (.of main_call0_v10) (.of main_call0_v11) andi,
    TRef.nullary (.of main_call0_c_0) (constantI S_ 32 1#32),
    TRef.unary (.of main_call0_c_0) (.of main_call0_v12) (broadcastInDim S16384 ![] bcast_S_S16384),
    TRef.binary (.of main_call0_v2) (.of main_call0_v12) (.of main_call0_v13) subi,
    TRef.ternary (.of main_call0_v11) (.of main_call0_v13) (.of main_call0_v2) (.of main_v0) select,
    nullary main_c_0 (constantI S_ 32 1024#32),
    unary main_c_0 main_v1 (broadcastInDim S16384 ![] bcast_S_S16384 : (⟨S_, .i32⟩ : BufTy).Contents (Elt F) → (⟨S16384, .i32⟩ : BufTy).Contents (Elt F)),
    binary main_v0 main_v1 main_v2 (muli : (⟨S16384, .i32⟩ : BufTy).Contents (Elt F) → (⟨S16384, .i32⟩ : BufTy).Contents (Elt F) → (⟨S16384, .i32⟩ : BufTy).Contents (Elt F)),
    nullary main_c_1 (constantI S_ 32 1024#32),
    TRef.unary (.of main_c_1) (.of main_call1_v0) id,
    TRef.nullary (.of main_call1_c) (constantI S_ 32 0#32),
    TRef.binary (.of main_call1_v0) (.of main_call1_c) (.of main_call1_v1) (cmpi .eq),
    TRef.nullary (.of main_call1_c_0) (constantI S_ 32 1#32),
    TRef.ternary (.of main_call1_v1) (.of main_call1_c_0) (.of main_call1_v0) (.of main_call1_v2) select,
    TRef.unary (.of main_call1_v2) (.of main_call1_v3) (broadcastInDim S16384 ![] bcast_S_S16384),
    TRef.binary (.of main_arg0) (.of main_call1_v3) (.of main_call1_v4) Host.remsi,
    TRef.nullary (.of main_call1_c_1) (constantI S_ 32 0#32),
    TRef.unary (.of main_call1_c_1) (.of main_call1_v5) (broadcastInDim S16384 ![] bcast_S_S16384),
    TRef.binary (.of main_call1_v4) (.of main_call1_v5) (.of main_call1_v6) (cmpi .ne),
    TRef.nullary (.of main_call1_c_2) (constantI S_ 32 0#32),
    TRef.unary (.of main_call1_c_2) (.of main_call1_v7) (broadcastInDim S16384 ![] bcast_S_S16384),
    TRef.binary (.of main_call1_v4) (.of main_call1_v7) (.of main_call1_v8) (cmpi .slt),
    TRef.nullary (.of main_call1_c_3) (constantI S_ 32 0#32),
    TRef.binary (.of main_call1_v2) (.of main_call1_c_3) (.of main_call1_v9) (cmpi .slt),
    TRef.unary (.of main_call1_v9) (.of main_call1_v10) (broadcastInDim S16384 ![] bcast_S_S16384),
    TRef.binary (.of main_call1_v8) (.of main_call1_v10) (.of main_call1_v11) (cmpi .ne),
    TRef.binary (.of main_call1_v11) (.of main_call1_v6) (.of main_call1_v12) andi,
    TRef.unary (.of main_call1_v2) (.of main_call1_v13) (broadcastInDim S16384 ![] bcast_S_S16384),
    TRef.binary (.of main_call1_v4) (.of main_call1_v13) (.of main_call1_v14) addi,
    TRef.ternary (.of main_call1_v12) (.of main_call1_v14) (.of main_call1_v4) (.of main_v3) select,
    binary main_v2 main_v3 main_v4 (addi : (⟨S16384, .i32⟩ : BufTy).Contents (Elt F) → (⟨S16384, .i32⟩ : BufTy).Contents (Elt F) → (⟨S16384, .i32⟩ : BufTy).Contents (Elt F)) ]

/-- The buffers `segUidx` writes, in order. -/
abbrev segUidxW : List (Ref sig .tc) :=
  [main_c, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v0, main_c_0, main_v1, main_v2, main_c_1, main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v3, main_v4]

theorem segUidx_writes : (segUidx : List (HloOp τ sig (Elt F))).Forall fun op => op.writes ⊆ (segUidxW.map (Proc.devRef (τ := τ) .tc)).toFinset :=
  forall_writes_sub_of_map rfl

theorem segUidx_fresh : (segUidx : List (HloOp τ sig (Elt F))).Forall fun op => op.fresh = ∅ := forall_fresh_of_map rfl

theorem segUidx_sub : (segUidx : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub ..⟩

/-- Host operations: the row group of every user within its super-table row. -/
abbrev segUsub : List (HloOp τ sig (Elt F)) :=
  [ nullary main_c_2 (constantI S_ 32 8192#32),
    TRef.unary (.of main_c_2) (.of main_call2_v0) id,
    TRef.nullary (.of main_call2_c) (constantI S_ 32 0#32),
    TRef.binary (.of main_call2_v0) (.of main_call2_c) (.of main_call2_v1) (cmpi .eq),
    TRef.nullary (.of main_call2_c_0) (constantI S_ 32 1#32),
    TRef.ternary (.of main_call2_v1) (.of main_call2_c_0) (.of main_call2_v0) (.of main_call2_v2) select,
    TRef.unary (.of main_call2_v2) (.of main_call2_v3) (broadcastInDim S16384 ![] bcast_S_S16384),
    TRef.binary (.of main_arg0) (.of main_call2_v3) (.of main_call2_v4) Host.remsi,
    TRef.nullary (.of main_call2_c_1) (constantI S_ 32 0#32),
    TRef.unary (.of main_call2_c_1) (.of main_call2_v5) (broadcastInDim S16384 ![] bcast_S_S16384),
    TRef.binary (.of main_call2_v4) (.of main_call2_v5) (.of main_call2_v6) (cmpi .ne),
    TRef.nullary (.of main_call2_c_2) (constantI S_ 32 0#32),
    TRef.unary (.of main_call2_c_2) (.of main_call2_v7) (broadcastInDim S16384 ![] bcast_S_S16384),
    TRef.binary (.of main_call2_v4) (.of main_call2_v7) (.of main_call2_v8) (cmpi .slt),
    TRef.nullary (.of main_call2_c_3) (constantI S_ 32 0#32),
    TRef.binary (.of main_call2_v2) (.of main_call2_c_3) (.of main_call2_v9) (cmpi .slt),
    TRef.unary (.of main_call2_v9) (.of main_call2_v10) (broadcastInDim S16384 ![] bcast_S_S16384),
    TRef.binary (.of main_call2_v8) (.of main_call2_v10) (.of main_call2_v11) (cmpi .ne),
    TRef.binary (.of main_call2_v11) (.of main_call2_v6) (.of main_call2_v12) andi,
    TRef.unary (.of main_call2_v2) (.of main_call2_v13) (broadcastInDim S16384 ![] bcast_S_S16384),
    TRef.binary (.of main_call2_v4) (.of main_call2_v13) (.of main_call2_v14) addi,
    TRef.ternary (.of main_call2_v12) (.of main_call2_v14) (.of main_call2_v4) (.of main_v5) select,
    nullary main_c_3 (constantI S_ 32 1024#32),
    TRef.unary (.of main_c_3) (.of main_call3_v0) id,
    TRef.unary (.of main_call3_v0) (.of main_call3_v1) (broadcastInDim S16384 ![] bcast_S_S16384),
    TRef.binary (.of main_v5) (.of main_call3_v1) (.of main_call3_v2) Host.divsi,
    TRef.unary (.of main_v5) (.of main_call3_v3) signi,
    TRef.unary (.of main_call3_v0) (.of main_call3_v4) signi,
    TRef.unary (.of main_call3_v4) (.of main_call3_v5) (broadcastInDim S16384 ![] bcast_S_S16384),
    TRef.binary (.of main_call3_v3) (.of main_call3_v5) (.of main_call3_v6) (cmpi .ne),
    TRef.unary (.of main_call3_v0) (.of main_call3_v7) (broadcastInDim S16384 ![] bcast_S_S16384),
    TRef.binary (.of main_v5) (.of main_call3_v7) (.of main_call3_v8) Host.remsi,
    TRef.nullary (.of main_call3_c) (constantI S_ 32 0#32),
    TRef.unary (.of main_call3_c) (.of main_call3_v9) (broadcastInDim S16384 ![] bcast_S_S16384),
    TRef.binary (.of main_call3_v8) (.of main_call3_v9) (.of main_call3_v10) (cmpi .ne),
    TRef.binary (.of main_call3_v6) (.of main_call3_v10) (.of main_call3_v11) andi,
    TRef.nullary (.of main_call3_c_0) (constantI S_ 32 1#32),
    TRef.unary (.of main_call3_c_0) (.of main_call3_v12) (broadcastInDim S16384 ![] bcast_S_S16384),
    TRef.binary (.of main_call3_v2) (.of main_call3_v12) (.of main_call3_v13) subi,
    TRef.ternary (.of main_call3_v11) (.of main_call3_v13) (.of main_call3_v2) (.of main_v6) select,
    unary main_v6 main_v7 (broadcastInDim S16384x1 ![0] bcast_S16384_S16384x1_0 : (⟨S16384, .i32⟩ : BufTy).Contents (Elt F) → (⟨S16384x1, .i32⟩ : BufTy).Contents (Elt F)) ]

/-- The buffers `segUsub` writes, in order. -/
abbrev segUsubW : List (Ref sig .tc) :=
  [main_c_2, main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v5, main_c_3, main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v6, main_v7]

theorem segUsub_writes : (segUsub : List (HloOp τ sig (Elt F))).Forall fun op => op.writes ⊆ (segUsubW.map (Proc.devRef (τ := τ) .tc)).toFinset :=
  forall_writes_sub_of_map rfl

theorem segUsub_fresh : (segUsub : List (HloOp τ sig (Elt F))).Forall fun op => op.fresh = ∅ := forall_fresh_of_map rfl

theorem segUsub_sub : (segUsub : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub ..⟩

/-- Host operations: the super-table row of every movie. -/
abbrev segMidx : List (HloOp τ sig (Elt F)) :=
  [ nullary main_c_4 (constantI S_ 32 8192#32),
    TRef.unary (.of main_c_4) (.of main_call4_v0) id,
    TRef.unary (.of main_call4_v0) (.of main_call4_v1) (broadcastInDim S16384 ![] bcast_S_S16384),
    TRef.binary (.of main_arg1) (.of main_call4_v1) (.of main_call4_v2) Host.divsi,
    TRef.unary (.of main_arg1) (.of main_call4_v3) signi,
    TRef.unary (.of main_call4_v0) (.of main_call4_v4) signi,
    TRef.unary (.of main_call4_v4) (.of main_call4_v5) (broadcastInDim S16384 ![] bcast_S_S16384),
    TRef.binary (.of main_call4_v3) (.of main_call4_v5) (.of main_call4_v6) (cmpi .ne),
    TRef.unary (.of main_call4_v0) (.of main_call4_v7) (broadcastInDim S16384 ![] bcast_S_S16384),
    TRef.binary (.of main_arg1) (.of main_call4_v7) (.of main_call4_v8) Host.remsi,
    TRef.nullary (.of main_call4_c) (constantI S_ 32 0#32),
    TRef.unary (.of main_call4_c) (.of main_call4_v9) (broadcastInDim S16384 ![] bcast_S_S16384),
    TRef.binary (.of main_call4_v8) (.of main_call4_v9) (.of main_call4_v10) (cmpi .ne),
    TRef.binary (.of main_call4_v6) (.of main_call4_v10) (.of main_call4_v11) andi,
    TRef.nullary (.of main_call4_c_0) (constantI S_ 32 1#32),
    TRef.unary (.of main_call4_c_0) (.of main_call4_v12) (broadcastInDim S16384 ![] bcast_S_S16384),
    TRef.binary (.of main_call4_v2) (.of main_call4_v12) (.of main_call4_v13) subi,
    TRef.ternary (.of main_call4_v11) (.of main_call4_v13) (.of main_call4_v2) (.of main_v8) select,
    nullary main_c_5 (constantI S_ 32 1024#32),
    unary main_c_5 main_v9 (broadcastInDim S16384 ![] bcast_S_S16384 : (⟨S_, .i32⟩ : BufTy).Contents (Elt F) → (⟨S16384, .i32⟩ : BufTy).Contents (Elt F)),
    binary main_v8 main_v9 main_v10 (muli : (⟨S16384, .i32⟩ : BufTy).Contents (Elt F) → (⟨S16384, .i32⟩ : BufTy).Contents (Elt F) → (⟨S16384, .i32⟩ : BufTy).Contents (Elt F)),
    nullary main_c_6 (constantI S_ 32 1024#32),
    TRef.unary (.of main_c_6) (.of main_call5_v0) id,
    TRef.nullary (.of main_call5_c) (constantI S_ 32 0#32),
    TRef.binary (.of main_call5_v0) (.of main_call5_c) (.of main_call5_v1) (cmpi .eq),
    TRef.nullary (.of main_call5_c_0) (constantI S_ 32 1#32),
    TRef.ternary (.of main_call5_v1) (.of main_call5_c_0) (.of main_call5_v0) (.of main_call5_v2) select,
    TRef.unary (.of main_call5_v2) (.of main_call5_v3) (broadcastInDim S16384 ![] bcast_S_S16384),
    TRef.binary (.of main_arg1) (.of main_call5_v3) (.of main_call5_v4) Host.remsi,
    TRef.nullary (.of main_call5_c_1) (constantI S_ 32 0#32),
    TRef.unary (.of main_call5_c_1) (.of main_call5_v5) (broadcastInDim S16384 ![] bcast_S_S16384),
    TRef.binary (.of main_call5_v4) (.of main_call5_v5) (.of main_call5_v6) (cmpi .ne),
    TRef.nullary (.of main_call5_c_2) (constantI S_ 32 0#32),
    TRef.unary (.of main_call5_c_2) (.of main_call5_v7) (broadcastInDim S16384 ![] bcast_S_S16384),
    TRef.binary (.of main_call5_v4) (.of main_call5_v7) (.of main_call5_v8) (cmpi .slt),
    TRef.nullary (.of main_call5_c_3) (constantI S_ 32 0#32),
    TRef.binary (.of main_call5_v2) (.of main_call5_c_3) (.of main_call5_v9) (cmpi .slt),
    TRef.unary (.of main_call5_v9) (.of main_call5_v10) (broadcastInDim S16384 ![] bcast_S_S16384),
    TRef.binary (.of main_call5_v8) (.of main_call5_v10) (.of main_call5_v11) (cmpi .ne),
    TRef.binary (.of main_call5_v11) (.of main_call5_v6) (.of main_call5_v12) andi,
    TRef.unary (.of main_call5_v2) (.of main_call5_v13) (broadcastInDim S16384 ![] bcast_S_S16384),
    TRef.binary (.of main_call5_v4) (.of main_call5_v13) (.of main_call5_v14) addi,
    TRef.ternary (.of main_call5_v12) (.of main_call5_v14) (.of main_call5_v4) (.of main_v11) select,
    binary main_v10 main_v11 main_v12 (addi : (⟨S16384, .i32⟩ : BufTy).Contents (Elt F) → (⟨S16384, .i32⟩ : BufTy).Contents (Elt F) → (⟨S16384, .i32⟩ : BufTy).Contents (Elt F)) ]

/-- The buffers `segMidx` writes, in order. -/
abbrev segMidxW : List (Ref sig .tc) :=
  [main_c_4, main_call4_v0, main_call4_v1, main_call4_v2, main_call4_v3, main_call4_v4, main_call4_v5, main_call4_v6, main_call4_v7, main_call4_v8, main_call4_c, main_call4_v9, main_call4_v10, main_call4_v11, main_call4_c_0, main_call4_v12, main_call4_v13, main_v8, main_c_5, main_v9, main_v10, main_c_6, main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v11, main_v12]

theorem segMidx_writes : (segMidx : List (HloOp τ sig (Elt F))).Forall fun op => op.writes ⊆ (segMidxW.map (Proc.devRef (τ := τ) .tc)).toFinset :=
  forall_writes_sub_of_map rfl

theorem segMidx_fresh : (segMidx : List (HloOp τ sig (Elt F))).Forall fun op => op.fresh = ∅ := forall_fresh_of_map rfl

theorem segMidx_sub : (segMidx : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub ..⟩

/-- Host operations: the row group of every movie within its super-table row. -/
abbrev segMsub : List (HloOp τ sig (Elt F)) :=
  [ nullary main_c_7 (constantI S_ 32 8192#32),
    TRef.unary (.of main_c_7) (.of main_call6_v0) id,
    TRef.nullary (.of main_call6_c) (constantI S_ 32 0#32),
    TRef.binary (.of main_call6_v0) (.of main_call6_c) (.of main_call6_v1) (cmpi .eq),
    TRef.nullary (.of main_call6_c_0) (constantI S_ 32 1#32),
    TRef.ternary (.of main_call6_v1) (.of main_call6_c_0) (.of main_call6_v0) (.of main_call6_v2) select,
    TRef.unary (.of main_call6_v2) (.of main_call6_v3) (broadcastInDim S16384 ![] bcast_S_S16384),
    TRef.binary (.of main_arg1) (.of main_call6_v3) (.of main_call6_v4) Host.remsi,
    TRef.nullary (.of main_call6_c_1) (constantI S_ 32 0#32),
    TRef.unary (.of main_call6_c_1) (.of main_call6_v5) (broadcastInDim S16384 ![] bcast_S_S16384),
    TRef.binary (.of main_call6_v4) (.of main_call6_v5) (.of main_call6_v6) (cmpi .ne),
    TRef.nullary (.of main_call6_c_2) (constantI S_ 32 0#32),
    TRef.unary (.of main_call6_c_2) (.of main_call6_v7) (broadcastInDim S16384 ![] bcast_S_S16384),
    TRef.binary (.of main_call6_v4) (.of main_call6_v7) (.of main_call6_v8) (cmpi .slt),
    TRef.nullary (.of main_call6_c_3) (constantI S_ 32 0#32),
    TRef.binary (.of main_call6_v2) (.of main_call6_c_3) (.of main_call6_v9) (cmpi .slt),
    TRef.unary (.of main_call6_v9) (.of main_call6_v10) (broadcastInDim S16384 ![] bcast_S_S16384),
    TRef.binary (.of main_call6_v8) (.of main_call6_v10) (.of main_call6_v11) (cmpi .ne),
    TRef.binary (.of main_call6_v11) (.of main_call6_v6) (.of main_call6_v12) andi,
    TRef.unary (.of main_call6_v2) (.of main_call6_v13) (broadcastInDim S16384 ![] bcast_S_S16384),
    TRef.binary (.of main_call6_v4) (.of main_call6_v13) (.of main_call6_v14) addi,
    TRef.ternary (.of main_call6_v12) (.of main_call6_v14) (.of main_call6_v4) (.of main_v13) select,
    nullary main_c_8 (constantI S_ 32 1024#32),
    TRef.unary (.of main_c_8) (.of main_call7_v0) id,
    TRef.unary (.of main_call7_v0) (.of main_call7_v1) (broadcastInDim S16384 ![] bcast_S_S16384),
    TRef.binary (.of main_v13) (.of main_call7_v1) (.of main_call7_v2) Host.divsi,
    TRef.unary (.of main_v13) (.of main_call7_v3) signi,
    TRef.unary (.of main_call7_v0) (.of main_call7_v4) signi,
    TRef.unary (.of main_call7_v4) (.of main_call7_v5) (broadcastInDim S16384 ![] bcast_S_S16384),
    TRef.binary (.of main_call7_v3) (.of main_call7_v5) (.of main_call7_v6) (cmpi .ne),
    TRef.unary (.of main_call7_v0) (.of main_call7_v7) (broadcastInDim S16384 ![] bcast_S_S16384),
    TRef.binary (.of main_v13) (.of main_call7_v7) (.of main_call7_v8) Host.remsi,
    TRef.nullary (.of main_call7_c) (constantI S_ 32 0#32),
    TRef.unary (.of main_call7_c) (.of main_call7_v9) (broadcastInDim S16384 ![] bcast_S_S16384),
    TRef.binary (.of main_call7_v8) (.of main_call7_v9) (.of main_call7_v10) (cmpi .ne),
    TRef.binary (.of main_call7_v6) (.of main_call7_v10) (.of main_call7_v11) andi,
    TRef.nullary (.of main_call7_c_0) (constantI S_ 32 1#32),
    TRef.unary (.of main_call7_c_0) (.of main_call7_v12) (broadcastInDim S16384 ![] bcast_S_S16384),
    TRef.binary (.of main_call7_v2) (.of main_call7_v12) (.of main_call7_v13) subi,
    TRef.ternary (.of main_call7_v11) (.of main_call7_v13) (.of main_call7_v2) (.of main_v14) select,
    unary main_v14 main_v15 (broadcastInDim S16384x1 ![0] bcast_S16384_S16384x1_0 : (⟨S16384, .i32⟩ : BufTy).Contents (Elt F) → (⟨S16384x1, .i32⟩ : BufTy).Contents (Elt F)) ]

/-- The buffers `segMsub` writes, in order. -/
abbrev segMsubW : List (Ref sig .tc) :=
  [main_c_7, main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v13, main_c_8, main_call7_v0, main_call7_v1, main_call7_v2, main_call7_v3, main_call7_v4, main_call7_v5, main_call7_v6, main_call7_v7, main_call7_v8, main_call7_c, main_call7_v9, main_call7_v10, main_call7_v11, main_call7_c_0, main_call7_v12, main_call7_v13, main_v14, main_v15]

theorem segMsub_writes : (segMsub : List (HloOp τ sig (Elt F))).Forall fun op => op.writes ⊆ (segMsubW.map (Proc.devRef (τ := τ) .tc)).toFinset :=
  forall_writes_sub_of_map rfl

theorem segMsub_fresh : (segMsub : List (HloOp τ sig (Elt F))).Forall fun op => op.fresh = ∅ := forall_fresh_of_map rfl

theorem segMsub_sub : (segMsub : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub ..⟩

/-- Host operations: the 128 by 128 identity and the transposed user table. -/
abbrev segEye : List (HloOp τ sig (Elt F)) :=
  [ nullary main_v16 (iotaInDim S128x128 32 0),
    nullary main_v17 (iotaInDim S128x128 32 1),
    nullary main_c_9 (constantI S_ 32 0#32),
    unary main_c_9 main_v18 (broadcastInDim S128x128 ![] bcast_S_S128x128 : (⟨S_, .i32⟩ : BufTy).Contents (Elt F) → (⟨S128x128, .i32⟩ : BufTy).Contents (Elt F)),
    binary main_v16 main_v18 main_v19 (addi : (⟨S128x128, .i32⟩ : BufTy).Contents (Elt F) → (⟨S128x128, .i32⟩ : BufTy).Contents (Elt F) → (⟨S128x128, .i32⟩ : BufTy).Contents (Elt F)),
    binary main_v19 main_v17 main_v20 (cmpi .eq : (⟨S128x128, .i32⟩ : BufTy).Contents (Elt F) → (⟨S128x128, .i32⟩ : BufTy).Contents (Elt F) → (⟨S128x128, .i1⟩ : BufTy).Contents (Elt F)),
    unary main_v20 main_v21 (uitofp .f32 : (⟨S128x128, .i1⟩ : BufTy).Contents (Elt F) → (⟨S128x128, .f32⟩ : BufTy).Contents (Elt F)),
    unary main_arg2 main_v22 ((transpose S16x1000000 [1, 0] · transposes_S1000000x16_S16x1000000_1_0) : (⟨S1000000x16, .f32⟩ : BufTy).Contents (Elt F) → (⟨S16x1000000, .f32⟩ : BufTy).Contents (Elt F)) ]

/-- The buffers `segEye` writes, in order. -/
abbrev segEyeW : List (Ref sig .tc) :=
  [main_v16, main_v17, main_c_9, main_v18, main_v19, main_v20, main_v21, main_v22]

theorem segEye_writes : (segEye : List (HloOp τ sig (Elt F))).Forall fun op => op.writes ⊆ (segEyeW.map (Proc.devRef (τ := τ) .tc)).toFinset :=
  forall_writes_sub_of_map rfl

theorem segEye_fresh : (segEye : List (HloOp τ sig (Elt F))).Forall fun op => op.fresh = ∅ := forall_fresh_of_map rfl

theorem segEye_sub : (segEye : List (HloOp τ sig (Elt F))).Forall fun op => op.bufs ⊆ tcRefs τ sig :=
  ⟨nullary_bufs_sub .., nullary_bufs_sub .., nullary_bufs_sub .., unary_bufs_sub .., binary_bufs_sub .., binary_bufs_sub .., unary_bufs_sub .., unary_bufs_sub ..⟩

/-- Host operations: the transposed movie table. -/
abbrev segMov : List (HloOp τ sig (Elt F)) :=
  [ unary main_arg3 main_v24 ((transpose S16x100000 [1, 0] · transposes_S100000x16_S16x100000_1_0) : (⟨S100000x16, .f32⟩ : BufTy).Contents (Elt F) → (⟨S16x100000, .f32⟩ : BufTy).Contents (Elt F)) ]

/-- The buffers `segMov` writes, in order. -/
abbrev segMovW : List (Ref sig .tc) :=
  [main_v24]

theorem segMov_writes : (segMov : List (HloOp τ sig (Elt F))).Forall fun op => op.writes ⊆ (segMovW.map (Proc.devRef (τ := τ) .tc)).toFinset :=
  forall_writes_sub_of_map rfl

theorem segMov_fresh : (segMov : List (HloOp τ sig (Elt F))).Forall fun op => op.fresh = ∅ := forall_fresh_of_map rfl

theorem segMov_sub : (segMov : List (HloOp τ sig (Elt F))).Forall fun op => op.bufs ⊆ tcRefs τ sig :=
  unary_bufs_sub ..

/-- Host operations: the tiled halves of the first weight, and the other weights and biases as the last call takes them. -/
abbrev segWts : List (HloOp τ sig (Elt F)) :=
  [ unary main_arg4 main_v27 ((extractStridedSlice S128x16 ![0, 0] · slices_S128x32_S128x16_0_0) : (⟨S128x32, .f32⟩ : BufTy).Contents (Elt F) → (⟨S128x16, .f32⟩ : BufTy).Contents (Elt F)),
    unary main_v27 main_v28 ((transpose S16x128 [1, 0] · transposes_S128x16_S16x128_1_0) : (⟨S128x16, .f32⟩ : BufTy).Contents (Elt F) → (⟨S16x128, .f32⟩ : BufTy).Contents (Elt F)),
    reshape main_v28 main_v29 (rfl : (.f32 : EltTy) = .f32) shapeCasts_S16x128_S1x16x1x128,
    unary main_v29 main_v30 (broadcastInDim S8x16x1x128 ![0, 1, 2, 3] bcast_S1x16x1x128_S8x16x1x128_0_1_2_3 : (⟨S1x16x1x128, .f32⟩ : BufTy).Contents (Elt F) → (⟨S8x16x1x128, .f32⟩ : BufTy).Contents (Elt F)),
    reshape main_v30 main_v31 (rfl : (.f32 : EltTy) = .f32) shapeCasts_S8x16x1x128_S128x128,
    unary main_arg4 main_v32 ((extractStridedSlice S128x16 ![0, 16] · slices_S128x32_S128x16_0_16) : (⟨S128x32, .f32⟩ : BufTy).Contents (Elt F) → (⟨S128x16, .f32⟩ : BufTy).Contents (Elt F)),
    unary main_v32 main_v33 ((transpose S16x128 [1, 0] · transposes_S128x16_S16x128_1_0) : (⟨S128x16, .f32⟩ : BufTy).Contents (Elt F) → (⟨S16x128, .f32⟩ : BufTy).Contents (Elt F)),
    reshape main_v33 main_v34 (rfl : (.f32 : EltTy) = .f32) shapeCasts_S16x128_S1x16x1x128,
    unary main_v34 main_v35 (broadcastInDim S8x16x1x128 ![0, 1, 2, 3] bcast_S1x16x1x128_S8x16x1x128_0_1_2_3 : (⟨S1x16x1x128, .f32⟩ : BufTy).Contents (Elt F) → (⟨S8x16x1x128, .f32⟩ : BufTy).Contents (Elt F)),
    reshape main_v35 main_v36 (rfl : (.f32 : EltTy) = .f32) shapeCasts_S8x16x1x128_S128x128,
    unary main_arg6 main_v37 ((transpose S128x64 [1, 0] · transposes_S64x128_S128x64_1_0) : (⟨S64x128, .f32⟩ : BufTy).Contents (Elt F) → (⟨S128x64, .f32⟩ : BufTy).Contents (Elt F)),
    unary main_arg8 main_v38 ((transpose S64x1 [1, 0] · transposes_S1x64_S64x1_1_0) : (⟨S1x64, .f32⟩ : BufTy).Contents (Elt F) → (⟨S64x1, .f32⟩ : BufTy).Contents (Elt F)),
    unary main_arg5 main_v39 (broadcastInDim S1x128 ![1] bcast_S128_S1x128_1 : (⟨S128, .f32⟩ : BufTy).Contents (Elt F) → (⟨S1x128, .f32⟩ : BufTy).Contents (Elt F)),
    unary main_arg7 main_v40 (broadcastInDim S1x64 ![1] bcast_S64_S1x64_1 : (⟨S64, .f32⟩ : BufTy).Contents (Elt F) → (⟨S1x64, .f32⟩ : BufTy).Contents (Elt F)),
    unary main_arg9 main_v41 (broadcastInDim S1x1 ![1] bcast_S1_S1x1_1 : (⟨S1, .f32⟩ : BufTy).Contents (Elt F) → (⟨S1x1, .f32⟩ : BufTy).Contents (Elt F)) ]

/-- The buffers `segWts` writes, in order. -/
abbrev segWtsW : List (Ref sig .tc) :=
  [main_v27, main_v28, main_v29, main_v30, main_v31, main_v32, main_v33, main_v34, main_v35, main_v36, main_v37, main_v38, main_v39, main_v40, main_v41]

theorem segWts_writes : (segWts : List (HloOp τ sig (Elt F))).Forall fun op => op.writes ⊆ (segWtsW.map (Proc.devRef (τ := τ) .tc)).toFinset :=
  forall_writes_sub_of_map rfl

theorem segWts_fresh : (segWts : List (HloOp τ sig (Elt F))).Forall fun op => op.fresh = ∅ := forall_fresh_of_map rfl

theorem segWts_sub : (segWts : List (HloOp τ sig (Elt F))).Forall fun op => op.bufs ⊆ tcRefs τ sig :=
  ⟨unary_bufs_sub .., unary_bufs_sub .., reshape_bufs_sub .., unary_bufs_sub .., reshape_bufs_sub .., unary_bufs_sub .., unary_bufs_sub .., reshape_bufs_sub .., unary_bufs_sub .., reshape_bufs_sub .., unary_bufs_sub .., unary_bufs_sub .., unary_bufs_sub .., unary_bufs_sub .., unary_bufs_sub ..⟩

/-- The lines before the first call, in order. -/
abbrev ops1 : List (HloOp τ sig (Elt F)) := segUidx ++ (segUsub ++ (segMidx ++ (segMsub ++ segEye)))

set_option maxHeartbeats 8000000 in
/-- The main function: the host lines around the four calls. -/
theorem main_eq (d : Dev nD) : main (F := F) d =
    (seq ops1 >>= fun _ => Prog.lift (.customCall (SparseCore.inner (Pipeline.entry 0)) ()) >>= fun _ =>
      seq segMov >>= fun _ => Prog.lift (.customCall (SparseCore.inner (Pipeline.entry 1)) ()) >>= fun _ =>
      (K (F := F)).run d 0 >>= fun _ => seq segWts >>= fun _ =>
      Prog.lift (.customCall (SparseCore.inner (Pipeline.entry 2)) ()) >>= fun _ => pure ⟨⟩) := rfl

end Cert.Proof.Run

end
-- ==== Proof.Main.lean ====
/-
  The launch's whole run: the contents of the TensorCore's buffers after each part of the main function, the main
  function's run through its host lines and its four calls, and the run of all threads.
-/
module

public import proofs.«01_k».proof.Proof.Host

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligationLoose arrRef ucRefs)

variable {F : FTy → Type}

local notation "𝕄" => MT nD τ sig (HIx 1) (Elt F) ℕ UU ℕ
variable [FloatOps F]

/-! ## The contents after each part -/

variable (m : (ℓ : Loc nD τ sig) → Buf (Elt F) ℓ)

/-- At the start. -/
def W0 (d : Dev nD) : Vals F := fun b => m (d, b)
/-- After the first host lines. -/
def W1 (d : Dev nD) : Vals F := StableHlo.after ops1 (W0 m d)
/-- After the first repacking call: the user super-table. -/
def W2 (d : Dev nD) : Vals F :=
  Function.update (W1 m d) (dr main_v23) (sup0 (F := F) (W1 m d (dr main_v21)) (W1 m d (dr main_v22)))
/-- After the movie table's transposition. -/
def W3 (d : Dev nD) : Vals F := StableHlo.after segMov (W2 m d)
/-- After the second repacking call: the movie super-table. -/
def W4 (d : Dev nD) : Vals F :=
  Function.update (W3 m d) (dr main_v25) (sup1 (F := F) (W3 m d (dr main_v21)) (W3 m d (dr main_v24)))
/-- The SparseCore call's arrays. -/
def opsOf : Ops F where
  iu d := W4 m d (dr main_v4)
  im d := W4 m d (dr main_v12)
  tu d := W4 m d (dr main_v23)
  tm d := W4 m d (dr main_v25)
  ou d := W4 m d (dr main_v26_0)
  om d := W4 m d (dr main_v26_1)
/-- After the SparseCore call: the gathered rows of both super-tables. -/
def W5 (d : Dev nD) : Vals F :=
  Function.update (Function.update (W4 m d) (dr main_v26_0) ((opsOf m).rU d)) (dr main_v26_1) ((opsOf m).rM d)
/-- After the weights' host lines. -/
def W6 (d : Dev nD) : Vals F := StableHlo.after segWts (W5 m d)
/-- At the end: the perceptron's result. -/
def W7 (d : Dev nD) : Vals F := Function.update (W6 m d) (dr main_v42) (mlpAll (F := F) (W6 m d))

theorem W2_eq (d : Dev nD) : W2 m d
    = Function.update (W1 m d) (dr main_v23) (sup0 (F := F) (W1 m d (dr main_v21)) (W1 m d (dr main_v22))) := rfl
theorem W4_eq (d : Dev nD) : W4 m d
    = Function.update (W3 m d) (dr main_v25) (sup1 (F := F) (W3 m d (dr main_v21)) (W3 m d (dr main_v24))) := rfl
theorem W7_eq (d : Dev nD) : W7 m d = Function.update (W6 m d) (dr main_v42) (mlpAll (F := F) (W6 m d)) := rfl

attribute [irreducible] W1 W2 W3 W4 W5 W6 W7

/-! ## The three TensorCore calls as regions -/

theorem upd_ne {r y : Ref sig .tc} (h : r ≠ y) (V : Vals F) (v : (dr y).ty.Contents (Elt F)) :
    Function.update V (dr y) v (dr r) = V (dr r) :=
  Function.update_of_ne (StableHlo.devRef_ne_of_ne h) _ _

/-- The first repacking call leaves its arrays at the contents it was given, the super-table written. -/
theorem exit0 (V : Vals F) (c : Dev nD) (w : Fin 3) :
    (dat0 V c).arrAt w cfg0.N = Function.update V (dr main_v23) (sup0 (F := F) (V (dr main_v21)) (V (dr main_v22))) (dr (arrRef spec0 w)) := by
  match w with
  | ⟨0, _⟩ => exact ((dat0 V c).arrAt_in 0 rfl _).trans (upd_ne (r := main_v22) (y := main_v23) (by decide) V _).symm
  | ⟨1, _⟩ => exact ((dat0 V c).arrAt_in 1 rfl _).trans (upd_ne (r := main_v21) (y := main_v23) (by decide) V _).symm
  | ⟨2, _⟩ => exact (arr0 V c).trans (Function.update_self (dr main_v23) _ V).symm

/-- The same of the second repacking call. -/
theorem exit1 (V : Vals F) (c : Dev nD) (w : Fin 3) :
    (dat1 V c).arrAt w cfg1.N = Function.update V (dr main_v25) (sup1 (F := F) (V (dr main_v21)) (V (dr main_v24))) (dr (arrRef spec1 w)) := by
  match w with
  | ⟨0, _⟩ => exact ((dat1 V c).arrAt_in 0 rfl _).trans (upd_ne (r := main_v24) (y := main_v25) (by decide) V _).symm
  | ⟨1, _⟩ => exact ((dat1 V c).arrAt_in 1 rfl _).trans (upd_ne (r := main_v21) (y := main_v25) (by decide) V _).symm
  | ⟨2, _⟩ => exact (arr1 V c).trans (Function.update_self (dr main_v25) _ V).symm

set_option maxHeartbeats 4000000 in
/-- The same of the perceptron call. -/
theorem exit3 (V : Vals F) (c : Dev nD) (w : Fin 12) :
    (dat3 V c).arrAt w cfg3.N = Function.update V (dr main_v42) (mlpAll (F := F) V) (dr (arrRef spec3 w)) := by
  match w with
  | ⟨0, _⟩ => exact ((dat3 V c).arrAt_in 0 rfl _).trans (upd_ne (r := main_v26_0) (y := main_v42) (by decide) V _).symm
  | ⟨1, _⟩ => exact ((dat3 V c).arrAt_in 1 rfl _).trans (upd_ne (r := main_v26_1) (y := main_v42) (by decide) V _).symm
  | ⟨2, _⟩ => exact ((dat3 V c).arrAt_in 2 rfl _).trans (upd_ne (r := main_v7) (y := main_v42) (by decide) V _).symm
  | ⟨3, _⟩ => exact ((dat3 V c).arrAt_in 3 rfl _).trans (upd_ne (r := main_v15) (y := main_v42) (by decide) V _).symm
  | ⟨4, _⟩ => exact ((dat3 V c).arrAt_in 4 rfl _).trans (upd_ne (r := main_v31) (y := main_v42) (by decide) V _).symm
  | ⟨5, _⟩ => exact ((dat3 V c).arrAt_in 5 rfl _).trans (upd_ne (r := main_v36) (y := main_v42) (by decide) V _).symm
  | ⟨6, _⟩ => exact ((dat3 V c).arrAt_in 6 rfl _).trans (upd_ne (r := main_v39) (y := main_v42) (by decide) V _).symm
  | ⟨7, _⟩ => exact ((dat3 V c).arrAt_in 7 rfl _).trans (upd_ne (r := main_v37) (y := main_v42) (by decide) V _).symm
  | ⟨8, _⟩ => exact ((dat3 V c).arrAt_in 8 rfl _).trans (upd_ne (r := main_v40) (y := main_v42) (by decide) V _).symm
  | ⟨9, _⟩ => exact ((dat3 V c).arrAt_in 9 rfl _).trans (upd_ne (r := main_v38) (y := main_v42) (by decide) V _).symm
  | ⟨10, _⟩ => exact ((dat3 V c).arrAt_in 10 rfl _).trans (upd_ne (r := main_v41) (y := main_v42) (by decide) V _).symm
  | ⟨11, _⟩ => exact (arr3 V c).trans (Function.update_self (dr main_v42) _ V).symm

/-- The proof data of the launch's three pipelines. -/
abbrev dats := pdats (F := F) (W1 m) (W3 m) (W6 m)

/-- The region type of this launch's pipeline `p`. -/
abbrev Reg (p : Fin 3) := Pipeline.RegionSeg (pcfgs (F := F)) adm (dats m) (none : HIx 1) (defs₀ (F := F)) 𝒱₀ (K (F := F)).L (K (F := F)).lev p

/-- The first repacking call. -/
def reg0 : Reg m 0 :=
  region (W1 m) (W3 m) (W6 m) 0 launch0.toP 0 (fun c => body0 (W1 m c) c) (fun _ _ => rfl) (fun _ _ => rfl)
    (fun c w => (dat0 (W1 m c) c).share_full (fun _ => rfl) w) (fun _ _ => rfl) (W1 m) (W2 m) (fun _ _ => rfl) (fun c w => (exit0 (W1 m c) c w).trans (congrFun (W2_eq m c) _).symm)
/-- The second repacking call. -/
def reg1 : Reg m 1 :=
  region (W1 m) (W3 m) (W6 m) 1 launch1.toP 0 (fun c => body1 (W3 m c) c) (fun _ _ => rfl) (fun _ _ => rfl)
    (fun c w => (dat1 (W3 m c) c).share_full (fun _ => rfl) w) (fun _ _ => rfl) (W3 m) (W4 m) (fun _ _ => rfl) (fun c w => (exit1 (W3 m c) c w).trans (congrFun (W4_eq m c) _).symm)
/-- The perceptron call. -/
def reg3 : Reg m 2 :=
  region (W1 m) (W3 m) (W6 m) 2 launch3.toP 1 (fun c => body3 (W6 m c) c) (fun _ _ => rfl) (fun _ _ => rfl)
    (fun c w => (dat3 (W6 m c) c).share_full (fun _ => rfl) w) (fun _ _ => rfl) (W6 m) (W7 m) (fun _ _ => rfl) (fun c w => (exit3 (W6 m c) c w).trans (congrFun (W7_eq m c) _).symm)

/-- A call's run, inside the launch: from the region boundary and the region's entry state to its exit state. -/
theorem wp_call (p : Fin 3) (R : Reg m p) (d : Dev nD) (Q : PUnit → sProp 𝕄) :
    iprop((iprop(boundary (T d) ∗ R.post d) -∗ Q ⟨⟩) ∗ boundary (T d) ∗ R.pre d ∗ levAts (K (F := F)).L (K (F := F)).lev
        ∗ Pipeline.cellsGhost cfgs EP p d ∗ Pipeline.toksInit cfgs EP p d)
      ⊢ wp frame (wpE ((K (F := F)).defs (D (F := F))) 𝒱 (T d) none) Set.univ
          (Prog.lift (.customCall (SparseCore.inner (Pipeline.entry p)) ())) Q := by
  refine BIBase.Entails.trans ?_ ((K (F := F)).wp_liftProg (D (F := F)) 𝒱 (T d) Set.univ none (Prog.lift (.customCall (Pipeline.entry p) ())) Q)
  have hinj : Function.Injective (Pipeline.cellOf (nD := nD) (τ := τ) (Pipeline.pin (pcfgs (F := F)) adm)) := cellOf_inj
  have h := Pipeline.RegionSeg.wp (pcfgs (F := F)) adm (dats m) none hinj (EP (F := F)) (defs₀ (F := F)) 𝒱₀ (K (F := F)).L (K (F := F)).lev R d
    none (fun _ h => nomatch h) (fun _ => .ret ⟨⟩) Q
  refine BIBase.Entails.trans ?_ h
  iintro ⟨Hk, Hb, Hpre, HL, Hc, Ht⟩
  isplitl [Hk]
  · iintro H
    rw [wp_ret]; imodintro
    iapply Hk; iexact H
  isplitl [Hb]; · iexact Hb
  isplitl [Hpre]; · iexact Hpre
  isplitl [HL]; · iexact HL
  isplitl [Hc]; · iexact Hc
  iexact Ht

/-- A call's run over all the TensorCore's unscoped buffers: those the call does not name keep their contents. -/
theorem step_call (p : Fin 3) (R : Reg m p) (d : Dev nD) (n : ℕ) (W W' : Vals F)
    (huc : ∀ w, (arrRef (pcfgs (F := F) p).spec w).isScoped = false)
    (hpre : R.pre d = iprop(StableHlo.held (T d) (Pipeline.arrRefs (pcfgs (F := F) p).spec) W
      ∗ ∃ Wd, ⌜(K (F := F)).WBelow (T d) Wd (8 * n)⌝ ∗ owes (T d) ((K (F := F)).Otc d n) Wd))
    (hpost : R.post d = iprop(StableHlo.held (T d) (Pipeline.arrRefs (pcfgs (F := F) p).spec) W'
      ∗ ∃ Wd, ⌜(K (F := F)).WBelow (T d) Wd (8 * n)⌝ ∗ owes (T d) ((K (F := F)).Otc d n) Wd))
    (hoff : ∀ b, b ∉ Pipeline.arrRefs (τ := τ) (pcfgs (F := F) p).spec → W' b = W b) (k : PUnit → Prog (TpuEff nD τ sig (Elt F) (SparseCore.Sig (ΛP (F := F)) 1) .tc) PUnit)
    (Q : PUnit → sProp 𝕄) :
    iprop(boundary (T d) ∗ StableHlo.held (T d) (ucRefs τ sig) W ∗ (K (F := F)).tcSt EH d n
        ∗ levAts (K (F := F)).L (K (F := F)).lev ∗ Pipeline.cellsGhost cfgs EP p d ∗ Pipeline.toksInit cfgs EP p d)
      ⊢ iprop(((boundary (T d) ∗ StableHlo.held (T d) (ucRefs τ sig) W' ∗ (K (F := F)).tcSt EH d n) -∗ wp frame (wpE ((K (F := F)).defs (D (F := F))) 𝒱 (T d) none) Set.univ (k ⟨⟩) Q)
        -∗ wp frame (wpE ((K (F := F)).defs (D (F := F))) 𝒱 (T d) none) Set.univ
          (Prog.lift (.customCall (SparseCore.inner (Pipeline.entry p)) ()) >>= k) Q) := by
  have hsub := Pipeline.arrRefs_sub_ucRefs (τ := τ) (pcfgs (F := F) p).spec huc
  rw [StableHlo.held_sub_split (T d) hsub W, StableHlo.held_sub_split (T d) hsub W',
    StableHlo.held_congr (T d) (V := W') (V' := W) (fun b hb => hoff b (Finset.mem_sdiff.mp hb).2)]
  unfold SparseCore.Cfg.tcSt
  iintro ⟨Hb, ⟨Ha, Hr⟩, ⟨HO, Hst⟩, HL, Hc, Ht⟩ Hk
  rw [wp_bind]
  iapply (wp_call m p R d _) $$ [-]
  rw [hpre, hpost]
  isplitl [Hr Hst Hk]
  · iintro ⟨Hb, Ha, HO⟩
    iapply Hk
    isplitl [Hb]; · iexact Hb
    isplitl [Ha Hr]
    · isplitl [Ha] <;> iassumption
    isplitl [HO] <;> iassumption
  isplitl [Hb]; · iexact Hb
  isplitl [Ha HO]
  · isplitl [Ha] <;> iassumption
  isplitl [HL]; · iexact HL
  isplitl [Hc] <;> iassumption

/-- The first repacking call's run over the unscoped buffers. -/
theorem step0 (d : Dev nD) (k : PUnit → Prog (TpuEff nD τ sig (Elt F) (SparseCore.Sig (ΛP (F := F)) 1) .tc) PUnit)
    (Q : PUnit → sProp 𝕄) :
    iprop(boundary (T d) ∗ StableHlo.held (T d) (ucRefs τ sig) (W1 m d) ∗ (K (F := F)).tcSt EH d 0
        ∗ levAts (K (F := F)).L (K (F := F)).lev ∗ Pipeline.cellsGhost cfgs EP 0 d ∗ Pipeline.toksInit cfgs EP 0 d)
      ⊢ iprop(((boundary (T d) ∗ StableHlo.held (T d) (ucRefs τ sig) (W2 m d) ∗ (K (F := F)).tcSt EH d 0) -∗ wp frame (wpE ((K (F := F)).defs (D (F := F))) 𝒱 (T d) none) Set.univ (k ⟨⟩) Q)
        -∗ wp frame (wpE ((K (F := F)).defs (D (F := F))) 𝒱 (T d) none) Set.univ
          (Prog.lift (.customCall (SparseCore.inner (Pipeline.entry 0)) ()) >>= k) Q) := by
  have hpre : (reg0 m).pre d = iprop(StableHlo.held (T d) (Pipeline.arrRefs (pcfgs (F := F) 0).spec) (W1 m d)
      ∗ ∃ Wd, ⌜(K (F := F)).WBelow (T d) Wd (8 * 0)⌝ ∗ owes (T d) ((K (F := F)).Otc d 0) Wd) := by unfold reg0 region; rfl
  have hpost : (reg0 m).post d = iprop(StableHlo.held (T d) (Pipeline.arrRefs (pcfgs (F := F) 0).spec) (W2 m d)
      ∗ ∃ Wd, ⌜(K (F := F)).WBelow (T d) Wd (8 * 0)⌝ ∗ owes (T d) ((K (F := F)).Otc d 0) Wd) := by unfold reg0 region; rfl
  refine step_call m 0 (reg0 m) d 0 (W1 m d) (W2 m d) (by decide : ∀ w, (arrRef spec0 w).isScoped = false) hpre hpost (fun b hb => ?_) k Q
  have h : b ≠ dr main_v23 := fun h => hb (h.symm ▸ Finset.mem_map_of_mem ⟨Proc.devRef (sig := sig) (.tc : Proc τ), Proc.devRef_injective _⟩
    (by decide : main_v23 ∈ Finset.image (arrRef spec0) Finset.univ))
  rw [W2_eq, Function.update_of_ne h]

/-- The second repacking call's run over the unscoped buffers. -/
theorem step1 (d : Dev nD) (k : PUnit → Prog (TpuEff nD τ sig (Elt F) (SparseCore.Sig (ΛP (F := F)) 1) .tc) PUnit)
    (Q : PUnit → sProp 𝕄) :
    iprop(boundary (T d) ∗ StableHlo.held (T d) (ucRefs τ sig) (W3 m d) ∗ (K (F := F)).tcSt EH d 0
        ∗ levAts (K (F := F)).L (K (F := F)).lev ∗ Pipeline.cellsGhost cfgs EP 1 d ∗ Pipeline.toksInit cfgs EP 1 d)
      ⊢ iprop(((boundary (T d) ∗ StableHlo.held (T d) (ucRefs τ sig) (W4 m d) ∗ (K (F := F)).tcSt EH d 0) -∗ wp frame (wpE ((K (F := F)).defs (D (F := F))) 𝒱 (T d) none) Set.univ (k ⟨⟩) Q)
        -∗ wp frame (wpE ((K (F := F)).defs (D (F := F))) 𝒱 (T d) none) Set.univ
          (Prog.lift (.customCall (SparseCore.inner (Pipeline.entry 1)) ()) >>= k) Q) := by
  have hpre : (reg1 m).pre d = iprop(StableHlo.held (T d) (Pipeline.arrRefs (pcfgs (F := F) 1).spec) (W3 m d)
      ∗ ∃ Wd, ⌜(K (F := F)).WBelow (T d) Wd (8 * 0)⌝ ∗ owes (T d) ((K (F := F)).Otc d 0) Wd) := by unfold reg1 region; rfl
  have hpost : (reg1 m).post d = iprop(StableHlo.held (T d) (Pipeline.arrRefs (pcfgs (F := F) 1).spec) (W4 m d)
      ∗ ∃ Wd, ⌜(K (F := F)).WBelow (T d) Wd (8 * 0)⌝ ∗ owes (T d) ((K (F := F)).Otc d 0) Wd) := by unfold reg1 region; rfl
  refine step_call m 1 (reg1 m) d 0 (W3 m d) (W4 m d) (by decide : ∀ w, (arrRef spec1 w).isScoped = false) hpre hpost (fun b hb => ?_) k Q
  have h : b ≠ dr main_v25 := fun h => hb (h.symm ▸ Finset.mem_map_of_mem ⟨Proc.devRef (sig := sig) (.tc : Proc τ), Proc.devRef_injective _⟩
    (by decide : main_v25 ∈ Finset.image (arrRef spec1) Finset.univ))
  rw [W4_eq, Function.update_of_ne h]

/-- The perceptron call's run over the unscoped buffers. -/
theorem step3 (d : Dev nD) (k : PUnit → Prog (TpuEff nD τ sig (Elt F) (SparseCore.Sig (ΛP (F := F)) 1) .tc) PUnit)
    (Q : PUnit → sProp 𝕄) :
    iprop(boundary (T d) ∗ StableHlo.held (T d) (ucRefs τ sig) (W6 m d) ∗ (K (F := F)).tcSt EH d 1
        ∗ levAts (K (F := F)).L (K (F := F)).lev ∗ Pipeline.cellsGhost cfgs EP 2 d ∗ Pipeline.toksInit cfgs EP 2 d)
      ⊢ iprop(((boundary (T d) ∗ StableHlo.held (T d) (ucRefs τ sig) (W7 m d) ∗ (K (F := F)).tcSt EH d 1) -∗ wp frame (wpE ((K (F := F)).defs (D (F := F))) 𝒱 (T d) none) Set.univ (k ⟨⟩) Q)
        -∗ wp frame (wpE ((K (F := F)).defs (D (F := F))) 𝒱 (T d) none) Set.univ
          (Prog.lift (.customCall (SparseCore.inner (Pipeline.entry 2)) ()) >>= k) Q) := by
  have hpre : (reg3 m).pre d = iprop(StableHlo.held (T d) (Pipeline.arrRefs (pcfgs (F := F) 2).spec) (W6 m d)
      ∗ ∃ Wd, ⌜(K (F := F)).WBelow (T d) Wd (8 * 1)⌝ ∗ owes (T d) ((K (F := F)).Otc d 1) Wd) := by unfold reg3 region; rfl
  have hpost : (reg3 m).post d = iprop(StableHlo.held (T d) (Pipeline.arrRefs (pcfgs (F := F) 2).spec) (W7 m d)
      ∗ ∃ Wd, ⌜(K (F := F)).WBelow (T d) Wd (8 * 1)⌝ ∗ owes (T d) ((K (F := F)).Otc d 1) Wd) := by unfold reg3 region; rfl
  refine step_call m 2 (reg3 m) d 1 (W6 m d) (W7 m d) (by decide : ∀ w, (arrRef spec3 w).isScoped = false) hpre hpost (fun b hb => ?_) k Q
  have h : b ≠ dr main_v42 := fun h => hb (h.symm ▸ Finset.mem_map_of_mem ⟨Proc.devRef (sig := sig) (.tc : Proc τ), Proc.devRef_injective _⟩
    (by decide : main_v42 ∈ Finset.image (arrRef spec3) Finset.univ))
  rw [W7_eq, Function.update_of_ne h]

/-! ## The SparseCore call over the same buffers -/

/-- The six arrays the SparseCore call names. -/
def scRefs : Finset (Ref sig .tc) := {main_v4, main_v12, main_v23, main_v25, main_v26_0, main_v26_1}
/-- The same, as device buffers. -/
def scDev : Finset (DevRef τ sig) := scRefs.map ⟨Proc.devRef (sig := sig) (.tc : Proc τ), Proc.devRef_injective _⟩

theorem scDev_sub : scDev ⊆ ucRefs τ sig := fun b hb => by
  obtain ⟨r, hr, rfl⟩ := Finset.mem_map.mp hb
  exact Finset.mem_filter.mpr ⟨StableHlo.devRef_mem_tcRefs _, fun h' => by revert r; decide⟩

omit [FloatOps F] in
/-- Those six buffers held are the six whole arrays. -/
theorem held_sc (d : Dev nD) (V : Vals F) : (StableHlo.held (T d) scDev V : sProp 𝕄)
    = iprop((iuLoc d ↦{fullShare} V (dr main_v4)) ∗ (imLoc d ↦{fullShare} V (dr main_v12)) ∗ (tuLoc d ↦{fullShare} V (dr main_v23))
      ∗ (tmLoc d ↦{fullShare} V (dr main_v25)) ∗ (ouLoc d ↦{fullShare} V (dr main_v26_0)) ∗ (omLoc d ↦{fullShare} V (dr main_v26_1))) := by
  unfold StableHlo.held scDev scRefs
  rw [BI.bigSep_map, SparseCore.bigSep_insert' (by decide), SparseCore.bigSep_insert' (by decide), SparseCore.bigSep_insert' (by decide), SparseCore.bigSep_insert' (by decide),
    SparseCore.bigSep_insert' (by decide), BI.bigSep_singleton]
  rfl

/-- The SparseCore call's run over all the TensorCore's unscoped buffers. -/
theorem step_sc (κ : GSem nD τ sig → ℕ) (d : Dev nD) (k : PUnit → Prog (TpuEff nD τ sig (Elt F) (SparseCore.Sig (ΛP (F := F)) 1) .tc) PUnit)
    (Q : PUnit → sProp 𝕄) :
    iprop((K (F := F)).ctx EH (P (opsOf m)) κ (K (F := F)).lev ∗ StableHlo.held (T d) (ucRefs τ sig) (W4 m d) ∗ (K (F := F)).tcSt EH d 0)
      ⊢ iprop(((StableHlo.held (T d) (ucRefs τ sig) (W5 m d) ∗ (K (F := F)).tcSt EH d 1) -∗ wp frame (wpE ((K (F := F)).defs (D (F := F))) 𝒱 (T d) none) Set.univ (k ⟨⟩) Q)
        -∗ wp frame (wpE ((K (F := F)).defs (D (F := F))) 𝒱 (T d) none) Set.univ ((K (F := F)).run d 0 >>= k) Q) := by
  have h5 : ∀ b, b ∉ scDev → W5 m d b = W4 m d b := fun b hb => by
    unfold W5
    have h1 : b ≠ dr main_v26_1 := fun h => hb (h.symm ▸ Finset.mem_map_of_mem ⟨Proc.devRef (sig := sig) (.tc : Proc τ), Proc.devRef_injective _⟩ (by decide))
    have h0 : b ≠ dr main_v26_0 := fun h => hb (h.symm ▸ Finset.mem_map_of_mem ⟨Proc.devRef (sig := sig) (.tc : Proc τ), Proc.devRef_injective _⟩ (by decide))
    rw [Function.update_of_ne h1, Function.update_of_ne h0]
  have e5 (r : Ref sig .tc) (h0 : r ≠ main_v26_0) (h1 : r ≠ main_v26_1) : W5 m d (dr r) = W4 m d (dr r) := by
    unfold W5; rw [upd_ne h1, upd_ne h0]
  have e50 : W5 m d (dr main_v26_0) = (opsOf m).rU d := by
    unfold W5; rw [upd_ne (by decide)]; exact Function.update_self _ _ _
  have e51 : W5 m d (dr main_v26_1) = (opsOf m).rM d := by
    unfold W5; exact Function.update_self _ _ _
  rw [StableHlo.held_sub_split (T d) scDev_sub (W4 m d), StableHlo.held_sub_split (T d) scDev_sub (W5 m d),
    StableHlo.held_congr (T d) (V := W5 m d) (V' := W4 m d) (fun b hb => h5 b (Finset.mem_sdiff.mp hb).2),
    held_sc, held_sc, e50, e51, e5 main_v4 (by decide) (by decide), e5 main_v12 (by decide) (by decide), e5 main_v23 (by decide) (by decide),
    e5 main_v25 (by decide) (by decide), arrays_tiles, arrays_tiles]
  iintro ⟨Hctx, ⟨Hs, Hr⟩, Hst⟩ Hk
  rw [wp_bind]
  iapply ((K (F := F)).wp_run (D (F := F)) 𝒱 (EH := EH) (P := P (opsOf m)) κ d 0) $$ [-]
  isplitl [Hctx]; · iexact Hctx
  isplitl [Hst]; · iexact Hst
  isplitl [Hs]; · iexact Hs
  iintro ⟨Hst, Hdn⟩
  iapply Hk
  isplitr [Hst]
  · isplitl [Hdn]; · iexact Hdn
    iexact Hr
  iexact Hst

/-! ## The main function -/

theorem ops1_sub : ∀ op ∈ (ops1 : List (HloOp τ sig (Elt F))), op.bufs ⊆ ucRefs τ sig := fun op h => by
  refine Pipeline.sub_ucRefs op ?_
  simp only [ops1, List.mem_append] at h
  rcases h with h | h | h | h | h
  · exact List.forall_iff_forall_mem.mp segUidx_sub op h
  · exact List.forall_iff_forall_mem.mp segUsub_sub op h
  · exact List.forall_iff_forall_mem.mp segMidx_sub op h
  · exact List.forall_iff_forall_mem.mp segMsub_sub op h
  · exact List.forall_iff_forall_mem.mp segEye_sub op h
theorem ops1_fresh : ∀ op ∈ (ops1 : List (HloOp τ sig (Elt F))), op.fresh = ∅ := fun op h => by
  simp only [ops1, List.mem_append] at h
  rcases h with h | h | h | h | h
  · exact List.forall_iff_forall_mem.mp segUidx_fresh op h
  · exact List.forall_iff_forall_mem.mp segUsub_fresh op h
  · exact List.forall_iff_forall_mem.mp segMidx_fresh op h
  · exact List.forall_iff_forall_mem.mp segMsub_fresh op h
  · exact List.forall_iff_forall_mem.mp segEye_fresh op h

/-- What the main function ends with: every unscoped buffer at its final contents. -/
def FIN (d : Dev nD) : sProp 𝕄 := StableHlo.held (T d) (ucRefs τ sig) (W7 m d)

/-- A device's three pipelines' ghosts, one by one. -/
theorem G_split (d : Dev nD) : (G (F := F) d : sProp 𝕄)
    ⊢ iprop((Pipeline.cellsGhost cfgs EP 0 d ∗ Pipeline.toksInit cfgs EP 0 d) ∗ (Pipeline.cellsGhost cfgs EP 1 d ∗ Pipeline.toksInit cfgs EP 1 d)
      ∗ (Pipeline.cellsGhost cfgs EP 2 d ∗ Pipeline.toksInit cfgs EP 2 d)) := by
  unfold G
  rw [show (Finset.univ : Finset (Fin 3)) = {0, 1, 2} from rfl, SparseCore.bigSep_insert' (by decide), SparseCore.bigSep_insert' (by decide),
    BI.bigSep_singleton, SparseCore.bigSep_insert' (by decide), SparseCore.bigSep_insert' (by decide), BI.bigSep_singleton]
  iintro ⟨⟨H0, H1, H2⟩, K0, K1, K2⟩
  isplitl [H0 K0]
  · isplitl [H0] <;> iassumption
  isplitl [H1 K1]
  · isplitl [H1] <;> iassumption
  isplitl [H2] <;> iassumption

/-- A host line's run over all the TensorCore's unscoped buffers. -/
theorem step_host (d : Dev nD) (ops : List (HloOp τ sig (Elt F))) (hS : ∀ op ∈ ops, op.bufs ⊆ ucRefs τ sig) (hf : ∀ op ∈ ops, op.fresh = ∅)
    (W W' : Vals F) (hW : StableHlo.after ops W = W') (k : PUnit → Prog (TpuEff nD τ sig (Elt F) (SparseCore.Sig (ΛP (F := F)) 1) .tc) PUnit)
    (Q : PUnit → sProp 𝕄) :
    iprop(boundary (T d) ∗ StableHlo.held (T d) (ucRefs τ sig) W)
      ⊢ iprop(((boundary (T d) ∗ StableHlo.held (T d) (ucRefs τ sig) W') -∗ wp frame (wpE ((K (F := F)).defs (D (F := F))) 𝒱 (T d) none) Set.univ (k ⟨⟩) Q)
        -∗ wp frame (wpE ((K (F := F)).defs (D (F := F))) 𝒱 (T d) none) Set.univ (StableHlo.seq ops >>= k) Q) := by
  subst hW
  exact StableHlo.wp_seq 𝒱 none Set.univ d (ucRefs τ sig) k ops hS hf W

/-- The launch's records hold the levels, as often as wanted. -/
theorem ctx_levs (w : Ops F) (κ : GSem nD τ sig → ℕ) : ((K (F := F)).ctx EH (P w) κ (K (F := F)).lev : sProp 𝕄)
    ⊢ iprop((K (F := F)).ctx EH (P w) κ (K (F := F)).lev ∗ levAts (K (F := F)).L (K (F := F)).lev
      ∗ levAts (K (F := F)).L (K (F := F)).lev ∗ levAts (K (F := F)).L (K (F := F)).lev) := by
  iintro #H
  ihave #HL := ((K (F := F)).ctx_levAts κ) $$ H
  isplitl []; · iexact H
  isplitl []; · iexact HL
  isplitl []; · iexact HL
  iexact HL

end Cert.Proof.Run

end
-- ==== Proof.Values.lean ====
/-
  What the host lines compute, read out of the runs' contents: the super-table rows and the row groups as words, the
  identity matrix, the transposed tables, the weights; and the buffers every part of the run leaves alone.
-/
module

public import proofs.«01_k».proof.Proof.Main
public import Idealize.ShloMosaic.Lib.Pointwise

@[expose] public section

set_option maxRecDepth 8192

noncomputable section

namespace Cert.Proof.Run

open Cert.KernelIdeal Cert.KernelIdeal.Gen

open Idealize.ShloMosaic Idealize.ShloMosaic.StableHlo

variable {F : FTy → Type}
variable [FloatOps F]

/-! ## The integer helpers, on words -/

/-- The sign of a word. -/
def wsign (a : BitVec 32) : BitVec 32 := if a = 0 then 0 else if a.msb then -1 else 1

/-- Division rounding down, as the host's helper spells it. -/
def wfdiv (a c : BitVec 32) : BitVec 32 :=
  Scalar.select (IntOp.andi (IntOp.cmpi .ne (wsign a) (wsign c)) (IntOp.cmpi .ne (IntOp.remsi .host a c) 0#32))
    (IntOp.subi (IntOp.divsi .host a c) 1#32) (IntOp.divsi .host a c)

/-- The divisor the remainder's helper uses: one in place of zero. -/
def wdsor (c : BitVec 32) : BitVec 32 := Scalar.select (IntOp.cmpi .eq c 0#32) 1#32 c

/-- The remainder with the divisor's sign, as the host's helper spells it. -/
def wrem (a c : BitVec 32) : BitVec 32 :=
  Scalar.select (IntOp.andi (IntOp.cmpi .ne (IntOp.cmpi .slt (IntOp.remsi .host a (wdsor c)) 0#32) (IntOp.cmpi .slt (wdsor c) 0#32))
      (IntOp.cmpi .ne (IntOp.remsi .host a (wdsor c)) 0#32))
    (IntOp.addi (IntOp.remsi .host a (wdsor c)) (wdsor c)) (IntOp.remsi .host a (wdsor c))

/-- The super-table row of a table row. -/
def wsuper (a : BitVec 32) : BitVec 32 := IntOp.addi (IntOp.muli (wfdiv a 8192#32) 1024#32) (wrem a 1024#32)
/-- The row group of a table row within its super-table row. -/
def wsub (a : BitVec 32) : BitVec 32 := wfdiv (wrem a 8192#32) 1024#32

/-! ## What the host lines compute -/

/-- The library's index of a matrix entry is ours, -/
theorem ix2_at2 {n k : ℕ} (r : Fin n) (l : Fin k) : ValueIdx.ix2 r l = at2 r l :=
  funext fun a => match a with | ⟨0, _⟩ => rfl | ⟨1, _⟩ => rfl
/-- and of a vector entry. -/
theorem ix1_at1 {n : ℕ} (r : Fin n) : ValueIdx.ix1 r = at1 r :=
  funext fun a => match a with | ⟨0, _⟩ => rfl

/-- A vector as a column reads its row. -/
theorem bcast_col {α : Type} (x : S16384.Idx → α) (j : S16384x1.Idx) :
    broadcastInDim S16384x1 ![0] bcast_S16384_S16384x1_0 x j = x (at1 (j 0)) :=
  congrArg x (funext fun a => match a with | ⟨0, _⟩ => Fin.ext rfl)

theorem val_v4 (X : Vals F) : after segUidx X (dr main_v4) = fun j => wsuper (X (dr main_arg0) j) := by
  simp only [segUidx, TRef.binary, TRef.nullary, TRef.ternary, TRef.unary, TRef.toBuf, TRef.ofBuf, cast_eq]
  after_results_simp
  funext j; rfl

theorem val_v7 (X : Vals F) : after segUsub X (dr main_v7) = fun j => wsub (X (dr main_arg0) (at1 (j 0))) := by
  simp only [segUsub, TRef.binary, TRef.nullary, TRef.ternary, TRef.unary, TRef.toBuf, TRef.ofBuf, cast_eq]
  after_results_simp
  funext j
  rw [bcast_col]; rfl

theorem val_v12 (X : Vals F) : after segMidx X (dr main_v12) = fun j => wsuper (X (dr main_arg1) j) := by
  simp only [segMidx, TRef.binary, TRef.nullary, TRef.ternary, TRef.unary, TRef.toBuf, TRef.ofBuf, cast_eq]
  after_results_simp
  funext j; rfl

theorem val_v15 (X : Vals F) : after segMsub X (dr main_v15) = fun j => wsub (X (dr main_arg1) (at1 (j 0))) := by
  simp only [segMsub, TRef.binary, TRef.nullary, TRef.ternary, TRef.unary, TRef.toBuf, TRef.ofBuf, cast_eq]
  after_results_simp
  funext j
  rw [bcast_col]; rfl

theorem val_v21 (X : Vals F) : after segEye X (dr main_v21) =
    (uitofp .f32 (fun j => IntOp.cmpi .eq (IntOp.addi (BitVec.ofNat 32 (j 0).val) 0#32) (BitVec.ofNat 32 (j 1).val) : IVec S128x128 1) : FVec F S128x128 .f32) := by
  simp only [segEye]
  after_results_simp
  rfl

theorem val_v22 (X : Vals F) : after segEye X (dr main_v22) = fun j => X (dr main_arg2) (at2 (j 1) (j 0)) := by
  simp only [segEye, TRef.binary, TRef.nullary, TRef.ternary, TRef.unary, TRef.toBuf, TRef.ofBuf, cast_eq]
  after_results_simp
  funext j
  pointwise
  exact congrArg (X (dr main_arg2)) (ix2_at2 _ _)

theorem val_v24 (X : Vals F) : after segMov X (dr main_v24) = fun j => X (dr main_arg3) (at2 (j 1) (j 0)) := by
  simp only [segMov, TRef.binary, TRef.nullary, TRef.ternary, TRef.unary, TRef.toBuf, TRef.ofBuf, cast_eq]
  after_results_simp
  funext j
  pointwise
  exact congrArg (X (dr main_arg3)) (ix2_at2 _ _)

theorem val_v31 (X : Vals F) : after segWts X (dr main_v31) = fun j => X (dr main_arg4) (at2 (j 1) ⟨(j 0).val % 16, by omega⟩) := by
  simp only [segWts, TRef.binary, TRef.nullary, TRef.ternary, TRef.unary, TRef.toBuf, TRef.ofBuf, cast_eq]
  after_results_simp
  funext j
  pointwise
  exact congrArg (X (dr main_arg4)) (ix2_at2 _ _)

theorem val_v36 (X : Vals F) : after segWts X (dr main_v36) = fun j => X (dr main_arg4) (at2 (j 1) ⟨16 + (j 0).val % 16, by omega⟩) := by
  simp only [segWts, TRef.binary, TRef.nullary, TRef.ternary, TRef.unary, TRef.toBuf, TRef.ofBuf, cast_eq]
  after_results_simp
  funext j
  pointwise
  exact congrArg (X (dr main_arg4)) (ix2_at2 _ _)

theorem val_v37 (X : Vals F) : after segWts X (dr main_v37) = fun j => X (dr main_arg6) (at2 (j 1) (j 0)) := by
  simp only [segWts, TRef.binary, TRef.nullary, TRef.ternary, TRef.unary, TRef.toBuf, TRef.ofBuf, cast_eq]
  after_results_simp
  funext j
  pointwise
  exact congrArg (X (dr main_arg6)) (ix2_at2 _ _)

theorem val_v38 (X : Vals F) : after segWts X (dr main_v38) = fun j => X (dr main_arg8) (at2 0 (j 0)) := by
  simp only [segWts, TRef.binary, TRef.nullary, TRef.ternary, TRef.unary, TRef.toBuf, TRef.ofBuf, cast_eq]
  after_results_simp
  funext j
  pointwise
  exact congrArg (X (dr main_arg8)) (ix2_at2 _ _)

theorem val_v39 (X : Vals F) : after segWts X (dr main_v39) = fun j => X (dr main_arg5) (at1 (j 1)) := by
  simp only [segWts, TRef.binary, TRef.nullary, TRef.ternary, TRef.unary, TRef.toBuf, TRef.ofBuf, cast_eq]
  after_results_simp
  funext j
  pointwise
  exact congrArg (X (dr main_arg5)) (ix1_at1 _)

theorem val_v40 (X : Vals F) : after segWts X (dr main_v40) = fun j => X (dr main_arg7) (at1 (j 1)) := by
  simp only [segWts, TRef.binary, TRef.nullary, TRef.ternary, TRef.unary, TRef.toBuf, TRef.ofBuf, cast_eq]
  after_results_simp
  funext j
  pointwise
  exact congrArg (X (dr main_arg7)) (ix1_at1 _)

theorem val_v41 (X : Vals F) : after segWts X (dr main_v41) = fun j => X (dr main_arg9) (at1 0) := by
  simp only [segWts, TRef.binary, TRef.nullary, TRef.ternary, TRef.unary, TRef.toBuf, TRef.ofBuf, cast_eq]
  after_results_simp
  funext j
  pointwise
  exact congrArg (X (dr main_arg9)) (ix1_at1 _)

/-! ## What each part leaves alone -/

variable (m : (ℓ : Loc nD τ sig) → Buf (Elt F) ℓ)

theorem W1_eq (d : Dev nD) : W1 m d = after segEye (after segMsub (after segMidx (after segUsub (after segUidx (W0 m d))))) := by
  unfold W1
  rw [after_append, after_append, after_append, after_append]
theorem W3_eq (d : Dev nD) : W3 m d = after segMov (W2 m d) := by unfold W3; rfl
theorem W5_eq (d : Dev nD) : W5 m d
    = Function.update (Function.update (W4 m d) (dr main_v26_0) ((opsOf m).rU d)) (dr main_v26_1) ((opsOf m).rM d) := by
  unfold W5; rfl
theorem W6_eq (d : Dev nD) : W6 m d = after segWts (W5 m d) := by unfold W6; rfl

/-- A buffer no host line before the first call writes is as at the start. -/
theorem keep1 (d : Dev nD) {r : Ref sig .tc} (h1 : r ∉ segUidxW) (h2 : r ∉ segUsubW) (h3 : r ∉ segMidxW) (h4 : r ∉ segMsubW)
    (h5 : r ∉ segEyeW) : W1 m d (dr r) = m (d, dr r) := by
  rw [W1_eq, after_of_writes_sub segEye _ segEye_writes h5, after_of_writes_sub segMsub _ segMsub_writes h4,
    after_of_writes_sub segMidx _ segMidx_writes h3, after_of_writes_sub segUsub _ segUsub_writes h2,
    after_of_writes_sub segUidx _ segUidx_writes h1]
  unfold W0; rfl

/-- A buffer neither repacking call nor the line between them writes is as before them. -/
theorem keep4 (d : Dev nD) {r : Ref sig .tc} (h1 : r ≠ main_v23) (h2 : r ∉ segMovW) (h3 : r ≠ main_v25) :
    W4 m d (dr r) = W1 m d (dr r) := by
  rw [W4_eq, upd_ne h3, W3_eq, after_of_writes_sub segMov _ segMov_writes h2, W2_eq, upd_ne h1]

/-- A buffer neither the SparseCore call nor the weights' lines write is as before them. -/
theorem keep6 (d : Dev nD) {r : Ref sig .tc} (h1 : r ≠ main_v26_0) (h2 : r ≠ main_v26_1) (h3 : r ∉ segWtsW) :
    W6 m d (dr r) = W4 m d (dr r) := by
  rw [W6_eq, after_of_writes_sub segWts _ segWts_writes h3, W5_eq, upd_ne h2, upd_ne h1]

/-- An argument is never written. -/
theorem keep7 (d : Dev nD) {r : Ref sig .tc} (h1 : r ∉ segUidxW) (h2 : r ∉ segUsubW) (h3 : r ∉ segMidxW) (h4 : r ∉ segMsubW)
    (h5 : r ∉ segEyeW) (h6 : r ≠ main_v23) (h7 : r ∉ segMovW) (h8 : r ≠ main_v25) (h9 : r ≠ main_v26_0) (h10 : r ≠ main_v26_1)
    (h11 : r ∉ segWtsW) (h12 : r ≠ main_v42) : W7 m d (dr r) = m (d, dr r) := by
  rw [W7_eq, upd_ne h12, keep6 m d h9 h10 h11, keep4 m d h6 h7 h8, keep1 m d h1 h2 h3 h4 h5]

theorem W7_arg0 (d : Dev nD) : W7 m d (dr main_arg0) = m (d, dr main_arg0) :=
  keep7 m d (r := main_arg0) (by decide) (by decide) (by decide) (by decide) (by decide) (by decide) (by decide) (by decide) (by decide) (by decide) (by decide) (by decide)
theorem W7_arg1 (d : Dev nD) : W7 m d (dr main_arg1) = m (d, dr main_arg1) :=
  keep7 m d (r := main_arg1) (by decide) (by decide) (by decide) (by decide) (by decide) (by decide) (by decide) (by decide) (by decide) (by decide) (by decide) (by decide)
theorem W7_arg2 (d : Dev nD) : W7 m d (dr main_arg2) = m (d, dr main_arg2) :=
  keep7 m d (r := main_arg2) (by decide) (by decide) (by decide) (by decide) (by decide) (by decide) (by decide) (by decide) (by decide) (by decide) (by decide) (by decide)
theorem W7_arg3 (d : Dev nD) : W7 m d (dr main_arg3) = m (d, dr main_arg3) :=
  keep7 m d (r := main_arg3) (by decide) (by decide) (by decide) (by decide) (by decide) (by decide) (by decide) (by decide) (by decide) (by decide) (by decide) (by decide)
theorem W7_arg4 (d : Dev nD) : W7 m d (dr main_arg4) = m (d, dr main_arg4) :=
  keep7 m d (r := main_arg4) (by decide) (by decide) (by decide) (by decide) (by decide) (by decide) (by decide) (by decide) (by decide) (by decide) (by decide) (by decide)
theorem W7_arg5 (d : Dev nD) : W7 m d (dr main_arg5) = m (d, dr main_arg5) :=
  keep7 m d (r := main_arg5) (by decide) (by decide) (by decide) (by decide) (by decide) (by decide) (by decide) (by decide) (by decide) (by decide) (by decide) (by decide)
theorem W7_arg6 (d : Dev nD) : W7 m d (dr main_arg6) = m (d, dr main_arg6) :=
  keep7 m d (r := main_arg6) (by decide) (by decide) (by decide) (by decide) (by decide) (by decide) (by decide) (by decide) (by decide) (by decide) (by decide) (by decide)
theorem W7_arg7 (d : Dev nD) : W7 m d (dr main_arg7) = m (d, dr main_arg7) :=
  keep7 m d (r := main_arg7) (by decide) (by decide) (by decide) (by decide) (by decide) (by decide) (by decide) (by decide) (by decide) (by decide) (by decide) (by decide)
theorem W7_arg8 (d : Dev nD) : W7 m d (dr main_arg8) = m (d, dr main_arg8) :=
  keep7 m d (r := main_arg8) (by decide) (by decide) (by decide) (by decide) (by decide) (by decide) (by decide) (by decide) (by decide) (by decide) (by decide) (by decide)
theorem W7_arg9 (d : Dev nD) : W7 m d (dr main_arg9) = m (d, dr main_arg9) :=
  keep7 m d (r := main_arg9) (by decide) (by decide) (by decide) (by decide) (by decide) (by decide) (by decide) (by decide) (by decide) (by decide) (by decide) (by decide)

/-! ## The contents the calls read -/

theorem W1_v4 (d : Dev nD) : W1 m d (dr main_v4) = fun j => wsuper (m (d, dr main_arg0) j) := by
  rw [W1_eq, after_of_writes_sub segEye _ segEye_writes (r := main_v4) (by decide), after_of_writes_sub segMsub _ segMsub_writes (r := main_v4) (by decide), after_of_writes_sub segMidx _ segMidx_writes (r := main_v4) (by decide), after_of_writes_sub segUsub _ segUsub_writes (r := main_v4) (by decide), val_v4]
  unfold W0; rfl
theorem W1_v7 (d : Dev nD) : W1 m d (dr main_v7) = fun j => wsub (m (d, dr main_arg0) (at1 (j 0))) := by
  rw [W1_eq, after_of_writes_sub segEye _ segEye_writes (r := main_v7) (by decide), after_of_writes_sub segMsub _ segMsub_writes (r := main_v7) (by decide), after_of_writes_sub segMidx _ segMidx_writes (r := main_v7) (by decide), val_v7, after_of_writes_sub segUidx _ segUidx_writes (r := main_arg0) (by decide)]
  unfold W0; rfl
theorem W1_v12 (d : Dev nD) : W1 m d (dr main_v12) = fun j => wsuper (m (d, dr main_arg1) j) := by
  rw [W1_eq, after_of_writes_sub segEye _ segEye_writes (r := main_v12) (by decide), after_of_writes_sub segMsub _ segMsub_writes (r := main_v12) (by decide), val_v12, after_of_writes_sub segUsub _ segUsub_writes (r := main_arg1) (by decide), after_of_writes_sub segUidx _ segUidx_writes (r := main_arg1) (by decide)]
  unfold W0; rfl
theorem W1_v15 (d : Dev nD) : W1 m d (dr main_v15) = fun j => wsub (m (d, dr main_arg1) (at1 (j 0))) := by
  rw [W1_eq, after_of_writes_sub segEye _ segEye_writes (r := main_v15) (by decide), val_v15, after_of_writes_sub segMidx _ segMidx_writes (r := main_arg1) (by decide), after_of_writes_sub segUsub _ segUsub_writes (r := main_arg1) (by decide), after_of_writes_sub segUidx _ segUidx_writes (r := main_arg1) (by decide)]
  unfold W0; rfl
theorem W1_v21 (d : Dev nD) : W1 m d (dr main_v21) =
    (uitofp .f32 (fun j => IntOp.cmpi .eq (IntOp.addi (BitVec.ofNat 32 (j 0).val) 0#32) (BitVec.ofNat 32 (j 1).val) : IVec S128x128 1) : FVec F S128x128 .f32) := by
  rw [W1_eq, val_v21]
theorem W1_v22 (d : Dev nD) : W1 m d (dr main_v22) = fun j => m (d, dr main_arg2) (at2 (j 1) (j 0)) := by
  rw [W1_eq, val_v22, after_of_writes_sub segMsub _ segMsub_writes (r := main_arg2) (by decide), after_of_writes_sub segMidx _ segMidx_writes (r := main_arg2) (by decide), after_of_writes_sub segUsub _ segUsub_writes (r := main_arg2) (by decide), after_of_writes_sub segUidx _ segUidx_writes (r := main_arg2) (by decide)]
  unfold W0; rfl

theorem W3_v21 (d : Dev nD) : W3 m d (dr main_v21) = W1 m d (dr main_v21) := by
  rw [W3_eq, after_of_writes_sub segMov _ segMov_writes (r := main_v21) (by decide), W2_eq, upd_ne (r := main_v21) (y := main_v23) (by decide)]
theorem W3_v24 (d : Dev nD) : W3 m d (dr main_v24) = fun j => m (d, dr main_arg3) (at2 (j 1) (j 0)) := by
  rw [W3_eq, val_v24, W2_eq, upd_ne (r := main_arg3) (y := main_v23) (by decide), keep1 m d (r := main_arg3) (by decide) (by decide) (by decide) (by decide) (by decide)]
theorem W4_v23 (d : Dev nD) : W4 m d (dr main_v23) = sup0 (F := F) (W1 m d (dr main_v21)) (W1 m d (dr main_v22)) := by
  rw [W4_eq, upd_ne (r := main_v23) (y := main_v25) (by decide), W3_eq, after_of_writes_sub segMov _ segMov_writes (r := main_v23) (by decide), W2_eq]
  exact Function.update_self (dr main_v23) _ _
theorem W4_v25 (d : Dev nD) : W4 m d (dr main_v25) = sup1 (F := F) (W1 m d (dr main_v21)) (W3 m d (dr main_v24)) := by
  rw [W4_eq, W3_v21]
  exact Function.update_self (dr main_v25) _ _
theorem W4_v4 (d : Dev nD) : W4 m d (dr main_v4) = fun j => wsuper (m (d, dr main_arg0) j) := by
  rw [keep4 m d (r := main_v4) (by decide) (by decide) (by decide), W1_v4]
theorem W4_v12 (d : Dev nD) : W4 m d (dr main_v12) = fun j => wsuper (m (d, dr main_arg1) j) := by
  rw [keep4 m d (r := main_v12) (by decide) (by decide) (by decide), W1_v12]
theorem W6_v26_0 (d : Dev nD) : W6 m d (dr main_v26_0) = (opsOf m).rU d := by
  rw [W6_eq, after_of_writes_sub segWts _ segWts_writes (r := main_v26_0) (by decide), W5_eq,
    upd_ne (r := main_v26_0) (y := main_v26_1) (by decide)]
  exact Function.update_self (dr main_v26_0) _ _
theorem W6_v26_1 (d : Dev nD) : W6 m d (dr main_v26_1) = (opsOf m).rM d := by
  rw [W6_eq, after_of_writes_sub segWts _ segWts_writes (r := main_v26_1) (by decide), W5_eq]
  exact Function.update_self (dr main_v26_1) _ _
theorem W6_v7 (d : Dev nD) : W6 m d (dr main_v7) = fun j => wsub (m (d, dr main_arg0) (at1 (j 0))) := by
  rw [keep6 m d (r := main_v7) (by decide) (by decide) (by decide), keep4 m d (r := main_v7) (by decide) (by decide) (by decide), W1_v7]
theorem W6_v15 (d : Dev nD) : W6 m d (dr main_v15) = fun j => wsub (m (d, dr main_arg1) (at1 (j 0))) := by
  rw [keep6 m d (r := main_v15) (by decide) (by decide) (by decide), keep4 m d (r := main_v15) (by decide) (by decide) (by decide), W1_v15]

/-- An argument before the weights' lines is as at the start. -/
theorem keep5 (d : Dev nD) {r : Ref sig .tc} (h1 : r ∉ segUidxW) (h2 : r ∉ segUsubW) (h3 : r ∉ segMidxW) (h4 : r ∉ segMsubW)
    (h5 : r ∉ segEyeW) (h6 : r ≠ main_v23) (h7 : r ∉ segMovW) (h8 : r ≠ main_v25) (h9 : r ≠ main_v26_0) (h10 : r ≠ main_v26_1) :
    W5 m d (dr r) = m (d, dr r) := by
  rw [W5_eq, upd_ne h10, upd_ne h9, keep4 m d h6 h7 h8, keep1 m d h1 h2 h3 h4 h5]
theorem W6_v31 (d : Dev nD) : W6 m d (dr main_v31) = fun j => m (d, dr main_arg4) (at2 (j 1) ⟨(j 0).val % 16, by omega⟩) := by
  rw [W6_eq, val_v31, keep5 m d (r := main_arg4) (by decide) (by decide) (by decide) (by decide) (by decide) (by decide) (by decide) (by decide) (by decide) (by decide)]
theorem W6_v36 (d : Dev nD) : W6 m d (dr main_v36) = fun j => m (d, dr main_arg4) (at2 (j 1) ⟨16 + (j 0).val % 16, by omega⟩) := by
  rw [W6_eq, val_v36, keep5 m d (r := main_arg4) (by decide) (by decide) (by decide) (by decide) (by decide) (by decide) (by decide) (by decide) (by decide) (by decide)]
theorem W6_v37 (d : Dev nD) : W6 m d (dr main_v37) = fun j => m (d, dr main_arg6) (at2 (j 1) (j 0)) := by
  rw [W6_eq, val_v37, keep5 m d (r := main_arg6) (by decide) (by decide) (by decide) (by decide) (by decide) (by decide) (by decide) (by decide) (by decide) (by decide)]
theorem W6_v38 (d : Dev nD) : W6 m d (dr main_v38) = fun j => m (d, dr main_arg8) (at2 0 (j 0)) := by
  rw [W6_eq, val_v38, keep5 m d (r := main_arg8) (by decide) (by decide) (by decide) (by decide) (by decide) (by decide) (by decide) (by decide) (by decide) (by decide)]
theorem W6_v39 (d : Dev nD) : W6 m d (dr main_v39) = fun j => m (d, dr main_arg5) (at1 (j 1)) := by
  rw [W6_eq, val_v39, keep5 m d (r := main_arg5) (by decide) (by decide) (by decide) (by decide) (by decide) (by decide) (by decide) (by decide) (by decide) (by decide)]
theorem W6_v40 (d : Dev nD) : W6 m d (dr main_v40) = fun j => m (d, dr main_arg7) (at1 (j 1)) := by
  rw [W6_eq, val_v40, keep5 m d (r := main_arg7) (by decide) (by decide) (by decide) (by decide) (by decide) (by decide) (by decide) (by decide) (by decide) (by decide)]
theorem W6_v41 (d : Dev nD) : W6 m d (dr main_v41) = fun j => m (d, dr main_arg9) (at1 0) := by
  rw [W6_eq, val_v41, keep5 m d (r := main_arg9) (by decide) (by decide) (by decide) (by decide) (by decide) (by decide) (by decide) (by decide) (by decide) (by decide)]

end Cert.Proof.Run

end
-- ==== Proof.Words.lean ====
/-
  The row and row-group words as plain arithmetic, and the two ranges the precondition states: every user index is below
  the user table's row count, every movie index below the movie table's.
-/
module

public import proofs.«01_k».proof.Proof.Values
public import proofs.«01_k».proof.Defs
public import proofs.«01_k».proof.Proof.Gen.Pre_in_range
public import Idealize.ShloMosaic.Lib.Routing.Words
public import Idealize.ShloMosaic.Lib.ReduceAll

@[expose] public section

set_option maxRecDepth 8192

noncomputable section

namespace Cert.Proof.Run

open Cert.KernelIdeal Cert.KernelIdeal.Gen

open Idealize.ShloMosaic Idealize.ShloMosaic.StableHlo

variable {F : FTy → Type}
variable [FloatOps F]

/-! ## The words -/

/-- A word whose value is below 2^31 has no sign bit. -/
theorem msb_small {n : ℕ} (hn : n < 2 ^ 31) : (BitVec.ofNat 32 n).msb = false := by
  rw [BitVec.msb_eq_decide, BitVec.toNat_ofNat, Nat.mod_eq_of_lt (by omega)]
  exact decide_eq_false (by omega)

/-- Rounding-down division of a small word by a small positive one is the naturals'. -/
theorem wfdiv_word {n c : ℕ} (hn : n < 2 ^ 31) (h0 : 0 < c) (hc : c < 2 ^ 31) :
    wfdiv (BitVec.ofNat 32 n) (BitVec.ofNat 32 c) = BitVec.ofNat 32 (n / c) := by
  have hcz : (BitVec.ofNat 32 c) ≠ 0 := fun h => by
    have := congrArg BitVec.toNat h
    rw [BitVec.toNat_ofNat, Nat.mod_eq_of_lt (by omega)] at this
    simp at this; omega
  unfold wfdiv wsign
  rw [Routing.remsi_word .host hn h0 hc, Routing.divsi_word .host hn h0 hc, msb_small hn, msb_small hc, if_neg hcz]
  rcases Nat.eq_zero_or_pos n with h | h
  · subst h
    simp only [Nat.zero_mod, Nat.zero_div]
    rfl
  · have hnz : (BitVec.ofNat 32 n) ≠ 0 := fun h' => by
      have := congrArg BitVec.toNat h'
      rw [BitVec.toNat_ofNat, Nat.mod_eq_of_lt (by omega)] at this
      simp at this; omega
    rw [if_neg hnz]
    simp only [Bool.false_eq_true, if_false]
    have e : IntOp.cmpi .ne (1 : BitVec 32) 1 = 0#1 := by decide
    rw [e]
    show Scalar.select (0#1 &&& _) _ _ = _
    rw [BitVec.zero_and]
    rfl

/-- The remainder of a small word by a small positive one is the naturals'. -/
theorem wrem_word {n c : ℕ} (hn : n < 2 ^ 31) (h0 : 0 < c) (hc : c < 2 ^ 31) :
    wrem (BitVec.ofNat 32 n) (BitVec.ofNat 32 c) = BitVec.ofNat 32 (n % c) := by
  have hm : n % c < 2 ^ 31 := lt_of_le_of_lt (Nat.mod_le n c) hn
  have hd : wdsor (BitVec.ofNat 32 c) = BitVec.ofNat 32 c := by
    unfold wdsor
    rw [show (0#32 : BitVec 32) = BitVec.ofNat 32 0 from rfl, WordCmp.cmpi_eq_ofNat (w := 32) (by omega) (by decide),
      decide_eq_false (by omega)]
    rfl
  unfold wrem
  rw [hd, Routing.remsi_word .host hn h0 hc, show (0#32 : BitVec 32) = BitVec.ofNat 32 0 from rfl,
    WordCmp.cmpi_slt_ofNat (w := 32) hm (by decide), WordCmp.cmpi_slt_ofNat (w := 32) hc (by decide)]
  simp only [Nat.not_lt_zero, decide_false]
  exact Routing.select_zero_and _ _ _

/-- The super-table row of table row `n`. -/
theorem wsuper_word {n : ℕ} (hn : n < 2 ^ 31) :
    wsuper (BitVec.ofNat 32 n) = BitVec.ofNat 32 (n / 8192 * 1024 + n % 1024) := by
  unfold wsuper
  rw [show (8192#32 : BitVec 32) = BitVec.ofNat 32 8192 from rfl, show (1024#32 : BitVec 32) = BitVec.ofNat 32 1024 from rfl,
    wfdiv_word hn (by decide) (by decide), wrem_word hn (by decide) (by decide)]
  show BitVec.ofNat 32 _ * BitVec.ofNat 32 _ + BitVec.ofNat 32 _ = _
  rw [← BitVec.ofNat_mul, ← BitVec.ofNat_add]

/-- The row group of table row `n`. -/
theorem wsub_word {n : ℕ} (hn : n < 2 ^ 31) : wsub (BitVec.ofNat 32 n) = BitVec.ofNat 32 (n % 8192 / 1024) := by
  unfold wsub
  rw [show (8192#32 : BitVec 32) = BitVec.ofNat 32 8192 from rfl, show (1024#32 : BitVec 32) = BitVec.ofNat 32 1024 from rfl,
    wrem_word hn (by decide) (by decide), wfdiv_word (lt_of_le_of_lt (Nat.mod_le _ _) hn) (by decide) (by decide)]

/-- A word is the word of its value. -/
theorem ofNat_self (w : BitVec 32) : w = BitVec.ofNat 32 w.toNat := by simp

/-- The super-table row of a small word, as a value. -/
theorem wsuper_toNat {w : BitVec 32} (hw : w.toNat < 2 ^ 20) :
    (wsuper w).toNat = w.toNat / 8192 * 1024 + w.toNat % 1024 := by
  conv_lhs => rw [ofNat_self w]
  rw [wsuper_word (by omega), BitVec.toNat_ofNat, Nat.mod_eq_of_lt (by omega)]

/-! ## What the precondition says -/

section Pre

variable (a0 a1 : IVec S16384 32) (a2 : FVec F S1000000x16 .f32) (a3 : FVec F S100000x16 .f32) (a4 : FVec F S128x32 .f32)
  (a5 : FVec F S128 .f32) (a6 : FVec F S64x128 .f32) (a7 : FVec F S64 .f32) (a8 : FVec F S1x64 .f32) (a9 : FVec F S1 .f32)

/-- The precondition bounds every user index and every movie index. -/
theorem pre_bounds (h : Cert.Pre_in_range.fn (F := F) a0 a1 a2 a3 a4 a5 a6 a7 a8 a9 = fun _ => 1#1) :
    (∀ j, (a0 j).toNat < 1000000) ∧ ∀ j, (a1 j).toNat < 100000 := by
  have e := congrFun h (fun a => a.elim0)
  simp only [Cert.Pre_in_range.fn] at e
  obtain ⟨e0, e1⟩ := IntOp.andi_eq_one.1 e
  have : Subsingleton (Cert.Pre_in_range.S_).Idx := ⟨fun x y => funext fun a => a.elim0⟩
  refine ⟨fun j => ?_, fun j => ?_⟩
  · have := Host.reduce_andi_all _ _ _ _ _ e0 j
    have h' : IntOp.andi (IntOp.cmpi .sge (a0 j) 0#32) (IntOp.cmpi .slt (a0 j) (BitVec.ofNat 32 1000000)) = 1#1 := this
    rw [WordCmp.andi_sge_zero_slt_ofNat (by decide), WordCmp.ofBool_decide_eq_one_iff] at h'
    exact h'
  · have := Host.reduce_andi_all _ _ _ _ _ e1 j
    have h' : IntOp.andi (IntOp.cmpi .sge (a1 j) 0#32) (IntOp.cmpi .slt (a1 j) (BitVec.ofNat 32 100000)) = 1#1 := this
    rw [WordCmp.andi_sge_zero_slt_ofNat (by decide), WordCmp.ofBool_decide_eq_one_iff] at h'
    exact h'

end Pre

/-! ## The gathers' indices are in range -/

variable (m : (ℓ : Loc nD τ sig) → Buf (Elt F) ℓ)

/-- Every user index of the launch memory is below a million and every movie index below a hundred thousand. -/
structure Bounded : Prop where
  u : ∀ (d : Dev nD) (j : S16384.Idx), (show BitVec 32 from m (d, dr main_arg0) j).toNat < 1000000
  v : ∀ (d : Dev nD) (j : S16384.Idx), (show BitVec 32 from m (d, dr main_arg1) j).toNat < 100000

/-- Then the indices the SparseCore gathers by are rows of the two super-tables. -/
theorem opsOf_inRange (h : Bounded m) : (opsOf m).InRange where
  iu d j := by
    show (show BitVec 32 from W4 m d (dr main_v4) j).toNat < 125952
    rw [W4_v4]
    have := h.u d j
    show (wsuper (m (d, dr main_arg0) j)).toNat < 125952
    rw [wsuper_toNat (lt_trans this (by decide))]
    generalize (show BitVec 32 from m (d, dr main_arg0) j).toNat = n at this ⊢
    omega
  im d j := by
    show (show BitVec 32 from W4 m d (dr main_v12) j).toNat < 13312
    rw [W4_v12]
    have := h.v d j
    show (wsuper (m (d, dr main_arg1) j)).toNat < 13312
    rw [wsuper_toNat (lt_trans this (by decide))]
    generalize (show BitVec 32 from m (d, dr main_arg1) j).toNat = n at this ⊢
    omega

end Cert.Proof.Run
-- ==== Proof.Whole.lean ====
/-
  The main function's run through its host lines and its four calls, and the run of all threads.
-/
module

public import proofs.«01_k».proof.Proof.Main

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligationLoose arrRef ucRefs)

variable {F : FTy → Type}

local notation "𝕄" => MT nD τ sig (HIx 1) (Elt F) ℕ UU ℕ
variable [FloatOps F]

variable (m : (ℓ : Loc nD τ sig) → Buf (Elt F) ℓ)

/-- A device's unscoped buffers at launch are the TensorCore's buffers held at the memory's contents. -/
theorem unscoped_held (d : Dev nD) :
    (unscopedBufs (Ix := HIx 1) (Name := ℕ) (U := UU) (Lvl := ℕ) d (fun b => m ((SparseCore.T (τ := τ) d).loc b)) : sProp 𝕄) =
      StableHlo.held (SparseCore.T d) (ucRefs τ sig) (W0 m d) := by
  unfold W0
  exact Pipeline.unscopedBufs_held (Ix := HIx 1) (Name := ℕ) (U := UU) (Lvl := ℕ) d (fun b => m (d, b))

/-- The main function's run on one device. -/
theorem hmain (ρ : Dev nD → PrngReg) (κ : GSem nD τ sig → ℕ) (d : Dev nD) :
    iprop((K (F := F)).ctx EH (P (opsOf m)) κ (K (F := F)).lev ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd FIN
  rw [main_eq, unscoped_held]
  iintro ⟨Hctx, Hst, ⟨Hb, Hh, Hts, -⟩, HG⟩
  ihave Hctx := (ctx_levs (opsOf m) κ) $$ Hctx
  icases Hctx with ⟨Hctx, HL0, HL1, HL2⟩
  ihave HG' := (G_split d) $$ HG
  icases HG' with ⟨⟨Hc0, Ht0⟩, ⟨Hc1, Ht1⟩, ⟨Hc2, Ht2⟩⟩
  iapply (step_host d ops1 ops1_sub ops1_fresh (W0 m d) (W1 m d) (by unfold W1; rfl) _ _) $$ [Hb Hh]
  · isplitl [Hb] <;> iassumption
  iintro ⟨Hb, Hh⟩
  iapply (step0 m d _ _) $$ [Hb Hh Hst Hc0 Ht0 HL0]
  · isplitl [Hb]; · iexact Hb
    isplitl [Hh]; · iexact Hh
    isplitl [Hst]; · iexact Hst
    isplitl [HL0]; · iexact HL0
    isplitl [Hc0] <;> iassumption
  iintro ⟨Hb, Hh, Hst⟩
  iapply (step_host d segMov
    (fun op h => Pipeline.sub_ucRefs op (List.forall_iff_forall_mem.mp segMov_sub op h))
    (fun op h => List.forall_iff_forall_mem.mp segMov_fresh op h) (W2 m d) (W3 m d) (by unfold W3; rfl) _ _) $$ [Hb Hh]
  · isplitl [Hb] <;> iassumption
  iintro ⟨Hb, Hh⟩
  iapply (step1 m d _ _) $$ [Hb Hh Hst Hc1 Ht1 HL1]
  · isplitl [Hb]; · iexact Hb
    isplitl [Hh]; · iexact Hh
    isplitl [Hst]; · iexact Hst
    isplitl [HL1]; · iexact HL1
    isplitl [Hc1] <;> iassumption
  iintro ⟨Hb, Hh, Hst⟩
  iapply (step_sc m κ d _ _) $$ [Hh Hst Hctx]
  · isplitl [Hctx]; · iexact Hctx
    isplitl [Hh] <;> iassumption
  iintro ⟨Hh, Hst⟩
  iapply (step_host d segWts
    (fun op h => Pipeline.sub_ucRefs op (List.forall_iff_forall_mem.mp segWts_sub op h))
    (fun op h => List.forall_iff_forall_mem.mp segWts_fresh op h) (W5 m d) (W6 m d) (by unfold W6; rfl) _ _) $$ [Hb Hh]
  · isplitl [Hb] <;> iassumption
  iintro ⟨Hb, Hh⟩
  iapply (step3 m d _ _) $$ [Hb Hh Hst Hc2 Ht2 HL2]
  · isplitl [Hb]; · iexact Hb
    isplitl [Hh]; · iexact Hh
    isplitl [Hst]; · iexact Hst
    isplitl [HL2]; · iexact HL2
    isplitl [Hc2] <;> iassumption
  iintro ⟨Hb, Hh, Hst⟩
  rw [wp_pure]; imodintro
  isplitl [Hst]; · iexact Hst
  isplitl [Hh]; · iexact Hh
  isplitl [Hb] <;> iassumption

/-- What a final machine state shows of a device: every unscoped buffer of its TensorCore at its final contents. -/
def fq (d : Dev nD) (s' : Phys nD τ sig (Elt F)) : Prop := ∀ b ∈ ucRefs τ sig, s'.mem.mem (d, b) = W7 m d b

theorem hfin (d : Dev nD) (s' : Phys nD τ sig (Elt F)) : iprop(FIN m d ∗ SI s') ⊢ (⌜fq m d s'⌝ : sProp 𝕄) := by
  unfold FIN StableHlo.held fq
  iintro ⟨H, HSI⟩
  iapply (SI_pointsTo_bufs_agree (c := d) (qs := fun _ => fullShare) (F := W7 m d) (ucRefs τ sig))
  isplitl [HSI] <;> iassumption

/-- The launch's run: from any memory with the counters zero where every gathered index is in range, every fair run ends
    with the TensorCore's buffers at their final contents and every counter zero again. -/
theorem run_all [∀ e, Nonempty (Elt F e)] (ρ : Dev nD → PrngReg) (hin : (opsOf m).InRange) :
    θ_run (Cert.KernelIdeal.defs (F := F)) (Cert.KernelIdeal.threads (F := F)) ⟨m, fun _ => 0, ρ⟩
      fun r => (∀ d : Dev nD, ∀ b ∈ ucRefs τ sig, r.2.mem (d, b) = W7 m d b) ∧ r.2.sem = fun _ => 0 :=
  SparseCore.Cfg.θ_run_sc_quiescent (K := K (F := F)) (D := D (F := F)) (𝒱 := 𝒱) (EH := EH) (P := P (opsOf m)) (A := ∅) facts v₀
    (fun q hq => match q with | 0 => nomatch hq)
    (fun q _ => match q with | 0 => tileObl (opsOf m) hin)
    (fun q _ => match q with | 0 => SparseCore.Cfg.VecSplit.of_plain (vecSplit (opsOf m)))
    m ρ main (G (F := F)) (FIN m) (u₀ (F := F))
    (sep_elim_left.trans (fund _ (by
      rw [show (fun thr : Thread nD τ => bigSep Finset.univ fun q : Fin 1 => (P (opsOf m)).x q thr) = fun _ => (BI.emp : sProp 𝕄) from
        funext fun thr => (BI.bigSep_univ_of_subsingleton (0 : Fin 1))]
      rw [bigSep_emp_const])))
    (fun κ d => hmain m ρ κ d) (fq m) (hfin m) _ (fun _ h hz => ⟨h, hz⟩)

end Cert.Proof.Run

end
-- ==== Proof.Frames.lean ====
/-
  The frames: from memory that meets the precondition the kernel, its idealization and the reference each end with their
  arguments as they were and every semaphore at zero.
-/
module

public import proofs.«01_k».proof.Proof.Words
public import proofs.«01_k».proof.Proof.Whole
public import proofs.«01_k».proof.Proof.Gen.Kernel
public import proofs.«01_k».proof.Proof.Gen.ReferenceIdeal
public import proofs.«01_k».proof.Proof.Gen.ReferenceIdeal.Run

@[expose] public section

set_option maxRecDepth 8192

noncomputable section

namespace Cert.Proof.Run

open Cert.KernelIdeal Cert.KernelIdeal.Gen

open Idealize.ShloMosaic Idealize.ShloMosaic.StableHlo

variable {F : FTy → Type}
variable [FloatOps F]

/-- What the run leaves: the result as computed, the ten arguments as they were, the semaphores at zero. -/
def Left (m : (ℓ : Loc nD τ sig) → Buf (Elt F) ℓ) (s : (ℓ : Loc nD τ sig) → Buf (Elt F) ℓ) (d : Dev nD) : Prop :=
  s (d, dr main_v42) = W7 m d (dr main_v42)
  ∧ s (d, dr main_arg0) = m (d, dr main_arg0) ∧ s (d, dr main_arg1) = m (d, dr main_arg1)
  ∧ s (d, dr main_arg2) = m (d, dr main_arg2) ∧ s (d, dr main_arg3) = m (d, dr main_arg3)
  ∧ s (d, dr main_arg4) = m (d, dr main_arg4) ∧ s (d, dr main_arg5) = m (d, dr main_arg5)
  ∧ s (d, dr main_arg6) = m (d, dr main_arg6) ∧ s (d, dr main_arg7) = m (d, dr main_arg7)
  ∧ s (d, dr main_arg8) = m (d, dr main_arg8) ∧ s (d, dr main_arg9) = m (d, dr main_arg9)

/-- The run, read at the result and the arguments. -/
theorem run_main [∀ e, Nonempty (Elt F e)] (m : (ℓ : Loc nD τ sig) → Buf (Elt F) ℓ) (ρ : Dev nD → PrngReg) (hb : Bounded m) :
    θ_run (Cert.KernelIdeal.defs (F := F)) (Cert.KernelIdeal.threads (F := F)) ⟨m, fun _ => 0, ρ⟩
      fun r => (∀ d : Dev nD, Left m r.2.mem d) ∧ r.2.sem = fun _ => 0 :=
  (θ_run _ _ _).mono (fun r h => by
    refine ⟨fun d => ?_, h.2⟩
    have hr (r' : Ref sig .tc) (hs : r'.isScoped = false) : r.2.mem (d, dr r') = W7 m d (dr r') :=
      h.1 d _ (Finset.mem_filter.mpr ⟨StableHlo.devRef_mem_tcRefs _, by simpa using hs⟩)
    exact ⟨hr main_v42 rfl, (hr main_arg0 rfl).trans (W7_arg0 m d), (hr main_arg1 rfl).trans (W7_arg1 m d),
      (hr main_arg2 rfl).trans (W7_arg2 m d), (hr main_arg3 rfl).trans (W7_arg3 m d), (hr main_arg4 rfl).trans (W7_arg4 m d),
      (hr main_arg5 rfl).trans (W7_arg5 m d), (hr main_arg6 rfl).trans (W7_arg6 m d), (hr main_arg7 rfl).trans (W7_arg7 m d),
      (hr main_arg8 rfl).trans (W7_arg8 m d), (hr main_arg9 rfl).trans (W7_arg9 m d)⟩) (run_all m ρ (opsOf_inRange m hb))

/-- The precondition on the kernel's memory bounds its indices, -/
theorem bounded_kernel (m : (ℓ : Loc Cert.Kernel.nD Cert.Kernel.τ Cert.Kernel.sig) → Buf (Elt Bits) ℓ) (h : Cert.Pre_Kernel m) :
    Bounded (F := Bits) m :=
  ⟨fun d => (pre_bounds _ _ _ _ _ _ _ _ _ _ (h d)).1, fun d => (pre_bounds _ _ _ _ _ _ _ _ _ _ (h d)).2⟩
/-- and on the idealized kernel's memory. -/
theorem bounded_ideal (m : (ℓ : Loc nD τ sig) → Buf (Elt Ideal) ℓ) (h : Cert.Pre_KernelIdeal m) : Bounded (F := Ideal) m :=
  ⟨fun d => (pre_bounds _ _ _ _ _ _ _ _ _ _ (h d)).1, fun d => (pre_bounds _ _ _ _ _ _ _ _ _ _ (h d)).2⟩

/-- The kernel's frame, written with the idealized program's names at bit-exact floats: the two programs have one text. -/
def KernelFrame : Prop :=
  ∀ (m : (ℓ : Loc nD τ sig) → Buf (Elt Bits) ℓ) (ρ : Dev nD → PrngReg), Cert.Pre_Kernel m →
    θ_run (Cert.KernelIdeal.defs (F := Bits)) (Cert.KernelIdeal.threads (F := Bits)) ⟨m, fun _ => 0, ρ⟩ (fun r => (∀ d : Dev nD,
      r.2.mem (d, dr main_arg0) = m (d, dr main_arg0)
      ∧ r.2.mem (d, dr main_arg1) = m (d, dr main_arg1)
      ∧ r.2.mem (d, dr main_arg2) = m (d, dr main_arg2)
      ∧ r.2.mem (d, dr main_arg3) = m (d, dr main_arg3)
      ∧ r.2.mem (d, dr main_arg4) = m (d, dr main_arg4)
      ∧ r.2.mem (d, dr main_arg5) = m (d, dr main_arg5)
      ∧ r.2.mem (d, dr main_arg6) = m (d, dr main_arg6)
      ∧ r.2.mem (d, dr main_arg7) = m (d, dr main_arg7)
      ∧ r.2.mem (d, dr main_arg8) = m (d, dr main_arg8)
      ∧ r.2.mem (d, dr main_arg9) = m (d, dr main_arg9)) ∧ r.2.sem = fun _ => 0)

/-- It is the kernel's frame as the claim states it. -/
theorem kernelFrame_eq : Cert.quiescent_Kernel = KernelFrame := by chain_rfl

/-- The kernel's frame. -/
theorem frame_kernel : Cert.quiescent_Kernel := kernelFrame_eq ▸ fun m ρ hp =>
  (θ_run Cert.KernelIdeal.defs _ _).mono (fun _ h => ⟨fun c => (h.1 c).2, h.2⟩) (run_main (F := Bits) m ρ (bounded_kernel m hp))

/-- The idealized kernel's frame. -/
theorem frame_ideal : Cert.quiescent_KernelIdeal := fun m ρ hp =>
  (θ_run Cert.KernelIdeal.defs _ _).mono (fun _ h => ⟨fun c => (h.1 c).2, h.2⟩) (run_main (F := Ideal) m ρ (bounded_ideal m hp))

/-- The reference's frame, from any memory, -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)
/-- so from memory whose indices name rows too. -/
theorem frame_reference_in_range : Cert.quiescent_ReferenceIdeal_pre_in_range := fun m ρ _ => frame_reference m ρ trivial

end Cert.Proof.Run
-- ==== Proof.Formula.lean ====
/-
  The perceptron of one pair of table rows over the reals with infinities, as one formula: both programs compute it.
-/
module

public import proofs.«01_k».proof.Proof.TileValue

@[expose] public section

noncomputable section

namespace Cert.Proof.Run

open Idealize.ShloMosaic

open scoped BigOperators

/-- The index of a vector entry, or of a row and column, determines it. -/
theorem eta1 {n : ℕ} (j : (⟨1, ![n]⟩ : Shape).Idx) : j = at1 (j 0) := funext fun a => match a with | ⟨0, _⟩ => rfl
theorem eta2 {n k : ℕ} (j : (⟨2, ![n, k]⟩ : Shape).Idx) : j = at2 (j 0) (j 1) := funext fun a => match a with | ⟨0, _⟩ => rfl | ⟨1, _⟩ => rfl

variable (u v : Fin 16 → EReal) (W1 : (⟨2, ![128, 32]⟩ : Shape).Idx → EReal) (b1 : (⟨1, ![128]⟩ : Shape).Idx → EReal)
  (W2 : (⟨2, ![64, 128]⟩ : Shape).Idx → EReal) (b2 : (⟨1, ![64]⟩ : Shape).Idx → EReal)
  (W3 : (⟨2, ![1, 64]⟩ : Shape).Idx → EReal) (b3 : (⟨1, ![1]⟩ : Shape).Idx → EReal)

/-- The first layer's output `k`: the user row and the movie row against the two halves of the weights' row. -/
def hid1 (k : Fin 128) : EReal :=
  max ((∑ e : Fin 16, u e * W1 (at2 k ⟨e.val, by omega⟩)) + (∑ e : Fin 16, v e * W1 (at2 k ⟨16 + e.val, by omega⟩)) + b1 (at1 k)) 0
/-- The second layer's output `l`. -/
def hid2 (l : Fin 64) : EReal := max ((∑ k : Fin 128, hid1 u v W1 b1 k * W2 (at2 l k)) + b2 (at1 l)) 0
/-- The result. -/
def score : EReal := (∑ l : Fin 64, hid2 u v W1 b1 W2 b2 l * W3 (at2 0 l)) + b3 (at1 0)

end Cert.Proof.Run
-- ==== Proof.Pack.lean ====
/-
  The packed tables over the reals with infinities: the products with pieces of the identity matrix put row group `g` of
  a block on lanes `16 g` to `16 g + 15`, so entry `(r, l)` of a packed block is the block's entry in row `l mod 16`,
  column `1024 (l / 16) + r`, and a super-table's lanes are eight rows of its table.
-/
module

public import proofs.«01_k».proof.Proof.Words
public import Idealize.ShloMosaic.Lib.MatmulPlain
public import Idealize.ShloMosaic.Lib.ValueLayout
public import Idealize.ShloMosaic.PureOps.Ideal.Laws

@[expose] public section

set_option maxRecDepth 8192

noncomputable section

namespace Cert.Proof.Run

open Cert.KernelIdeal Cert.KernelIdeal.Gen

open Idealize.ShloMosaic Idealize.ShloMosaic.StableHlo

open scoped BigOperators

/-- A product from a zero accumulator, at an entry: the sum over the one contracted coordinate. -/
theorem mm_apply {M K N : ℕ} (lhs : FVec Ideal ⟨2, ![M, K]⟩ .f32) (rhs : FVec Ideal ⟨2, ![K, N]⟩ .f32) (r : Fin M) (c : Fin N) :
    matmul (DotDims.plain M K N) none lhs rhs (constant ⟨2, ![M, N]⟩ .f32 0x00000000#32) (at2 r c)
      = ∑ k : Fin K, lhs (at2 r k) * rhs (at2 k c) := by
  rw [← ix2_at2]
  simp only [matmul]
  rw [Ideal.matmul_plain_apply]
  simp only [ix2_at2]
  have h0 : (constant ⟨2, ![M, N]⟩ .f32 0x00000000#32 : FVec Ideal ⟨2, ![M, N]⟩ .f32) (at2 r c) = 0 := Ideal.ofBits_zero_f32
  rw [h0, zero_add]

/-- The identity matrix's entries. -/
def IsEye (E : S128x128.Idx → EReal) : Prop := ∀ r l : Fin 128, E (at2 r l) = if r = l then 1 else 0

/-- The identity matrix the host lines build has them. -/
theorem eye_isEye : IsEye (uitofp .f32 (fun j => IntOp.cmpi .eq (IntOp.addi (BitVec.ofNat 32 (j 0).val) 0#32) (BitVec.ofNat 32 (j 1).val) : IVec S128x128 1)
    : FVec Ideal S128x128 .f32) := by
  intro r l
  show ((IntOp.cmpi .eq (IntOp.addi (BitVec.ofNat 32 r.val) 0#32) (BitVec.ofNat 32 l.val)).toNat : EReal) = _
  rw [show IntOp.addi (BitVec.ofNat 32 r.val) 0#32 = BitVec.ofNat 32 r.val from BitVec.add_zero _,
    WordCmp.cmpi_eq_ofNat (w := 32) (by omega) (by omega)]
  by_cases h : r = l
  · subst h; simp
  · have h' : ¬ r.val = l.val := fun e => h (Fin.ext e)
    simp [h, h']

/-- One product: the sixteen rows of the block's piece stand on lanes `m` to `m + 15`, zero elsewhere. -/
theorem packTerm_apply {E : S128x128.Idx → EReal} (hE : IsEye E) (x : FVec Ideal S16x8192 .f32) (m o : ℕ)
    (hm : ∀ a, (![0, m] : Fin 2 → Nat) a + S128x16.size a ≤ S128x128.size a) (ho : S16x8192.Slices ![0, o] S16x1024)
    (hm' : m + 16 ≤ 128) (ho' : o + 1024 ≤ 8192) (l : Fin 128) (r : Fin 1024) :
    packTerm (F := Ideal) E x m o hm ho (at2 l r)
      = if h : m ≤ l.val ∧ l.val < m + 16 then x (at2 ⟨l.val - m, by omega⟩ ⟨o + r.val, by omega⟩) else 0 := by
  have e1 (k : Fin 16) : shapeCast S128x16 (View.ld (Val := Elt Ideal) (e' := .f32) E (Rect.unit (s := S128x128) ![0, m] S128x16.size hm)) shapeCasts_S128x16_S128x16 (at2 l k)
      = E (at2 l ⟨m + k.val, by omega⟩) := by
    refine (congrFun (shapeCast_self (s := S128x16) _ _) _).trans ?_
    exact congrArg E (funext fun a => match a with | ⟨0, _⟩ => Fin.ext (by simp [at2, Rect.unit]) | ⟨1, _⟩ => Fin.ext (by simp [at2, Rect.unit]))
  have e2 (k : Fin 16) : extractStridedSlice S16x1024 ![0, o] x ho (at2 k r) = x (at2 k ⟨o + r.val, by omega⟩) :=
    congrArg x (funext fun a => match a with | ⟨0, _⟩ => Fin.ext (by simp [at2]) | ⟨1, _⟩ => Fin.ext (by simp [at2]))
  unfold packTerm
  refine (mm_apply (M := 128) (K := 16) (N := 1024) _ _ l r).trans ?_
  simp only [e1, e2, hE l]
  by_cases h : m ≤ l.val ∧ l.val < m + 16
  · rw [dif_pos h, Finset.sum_eq_single (⟨l.val - m, by omega⟩ : Fin 16)]
    · rw [if_pos (Fin.ext (by show l.val = m + (l.val - m); omega)), one_mul]
    · intro k _ hk
      rw [if_neg (fun e => hk (Fin.ext (by have := congrArg Fin.val e; simp at this ⊢; omega))), zero_mul]
    · exact fun h' => absurd (Finset.mem_univ _) h'
  · rw [dif_neg h]
    refine Finset.sum_eq_zero fun k _ => ?_
    rw [if_neg (fun e => h (by have := congrArg Fin.val e; simp at this; omega)), zero_mul]

/-- A block packed, at an entry. -/
theorem pack_apply {E : S128x128.Idx → EReal} (hE : IsEye E) (x : FVec Ideal S16x8192 .f32) (r : Fin 1024) (l : Fin 128) :
    pack (F := Ideal) E x (at2 r l) = x (at2 ⟨l.val % 16, Nat.mod_lt _ (by decide)⟩ ⟨l.val / 16 * 1024 + r.val, by omega⟩) := by
  unfold pack
  have hx (a b : ℕ) (ha : a < 16) (hb : b < 8192) (e1 : a = l.val % 16) (e2 : b = l.val / 16 * 1024 + r.val) :
      x (at2 ⟨a, ha⟩ ⟨b, hb⟩) = x (at2 ⟨l.val % 16, Nat.mod_lt _ (by decide)⟩ ⟨l.val / 16 * 1024 + r.val, by omega⟩) := by
    subst e1; subst e2; rfl
  have ht (y : FVec Ideal S128x1024 .f32) : transpose S1024x128 [1, 0] y transposes_S128x1024_p1_0_S1024x128 (at2 r l) = y (at2 l r) := by
    rw [← ix2_at2, ← ix2_at2]
    exact ValueIdx.transpose_ix2_apply y _ r l
  rw [ht]
  show ((((((((Ideal.ofBits .f32 0x00000000#32 + _) + _) + _) + _) + _) + _) + _) + _ : EReal) = _
  rw [Ideal.ofBits_zero_f32]
  rw [packTerm_apply hE _ 0 0 _ _ (by decide) (by decide), packTerm_apply hE _ 16 1024 _ _ (by decide) (by decide),
    packTerm_apply hE _ 32 2048 _ _ (by decide) (by decide), packTerm_apply hE _ 48 3072 _ _ (by decide) (by decide),
    packTerm_apply hE _ 64 4096 _ _ (by decide) (by decide), packTerm_apply hE _ 80 5120 _ _ (by decide) (by decide),
    packTerm_apply hE _ 96 6144 _ _ (by decide) (by decide), packTerm_apply hE _ 112 7168 _ _ (by decide) (by decide)]
  have hl := l.isLt
  obtain h | h | h | h | h | h | h | h : l.val / 16 = 0 ∨ l.val / 16 = 1 ∨ l.val / 16 = 2 ∨ l.val / 16 = 3 ∨ l.val / 16 = 4
      ∨ l.val / 16 = 5 ∨ l.val / 16 = 6 ∨ l.val / 16 = 7 := by omega
  · rw [dif_pos (by omega), dif_neg (by omega), dif_neg (by omega), dif_neg (by omega), dif_neg (by omega), dif_neg (by omega), dif_neg (by omega), dif_neg (by omega)]
    simp only [zero_add, add_zero]
    exact hx _ _ _ _ (by omega) (by omega)
  · rw [dif_neg (by omega), dif_pos (by omega), dif_neg (by omega), dif_neg (by omega), dif_neg (by omega), dif_neg (by omega), dif_neg (by omega), dif_neg (by omega)]
    simp only [zero_add, add_zero]
    exact hx _ _ _ _ (by omega) (by omega)
  · rw [dif_neg (by omega), dif_neg (by omega), dif_pos (by omega), dif_neg (by omega), dif_neg (by omega), dif_neg (by omega), dif_neg (by omega), dif_neg (by omega)]
    simp only [zero_add, add_zero]
    exact hx _ _ _ _ (by omega) (by omega)
  · rw [dif_neg (by omega), dif_neg (by omega), dif_neg (by omega), dif_pos (by omega), dif_neg (by omega), dif_neg (by omega), dif_neg (by omega), dif_neg (by omega)]
    simp only [zero_add, add_zero]
    exact hx _ _ _ _ (by omega) (by omega)
  · rw [dif_neg (by omega), dif_neg (by omega), dif_neg (by omega), dif_neg (by omega), dif_pos (by omega), dif_neg (by omega), dif_neg (by omega), dif_neg (by omega)]
    simp only [zero_add, add_zero]
    exact hx _ _ _ _ (by omega) (by omega)
  · rw [dif_neg (by omega), dif_neg (by omega), dif_neg (by omega), dif_neg (by omega), dif_neg (by omega), dif_pos (by omega), dif_neg (by omega), dif_neg (by omega)]
    simp only [zero_add, add_zero]
    exact hx _ _ _ _ (by omega) (by omega)
  · rw [dif_neg (by omega), dif_neg (by omega), dif_neg (by omega), dif_neg (by omega), dif_neg (by omega), dif_neg (by omega), dif_pos (by omega), dif_neg (by omega)]
    simp only [zero_add, add_zero]
    exact hx _ _ _ _ (by omega) (by omega)
  · rw [dif_neg (by omega), dif_neg (by omega), dif_neg (by omega), dif_neg (by omega), dif_neg (by omega), dif_neg (by omega), dif_neg (by omega), dif_pos (by omega)]
    simp only [zero_add, add_zero]
    exact hx _ _ _ _ (by omega) (by omega)

/-- The user super-table: row `n / 8192 * 1024 + n % 1024` holds table row `n` on the sixteen lanes of `n`'s row group. -/
theorem sup0_apply {E : S128x128.Idx → EReal} (hE : IsEye E) (t : S16x1000000.Idx → EReal) (n : ℕ) (hn : n < 1000000) (e : Fin 16)
    (h1 : n / 8192 * 1024 + n % 1024 < 125952) (h2 : n % 8192 / 1024 * 16 + e.val < 128) :
    sup0 (F := Ideal) E t (at2 ⟨n / 8192 * 1024 + n % 1024, h1⟩ ⟨n % 8192 / 1024 * 16 + e.val, h2⟩) = t (at2 e ⟨n, hn⟩) := by
  unfold sup0
  refine (pack_apply hE _ _ _).trans ?_
  have a1 : (n / 8192 * 1024 + n % 1024) / 1024 = n / 8192 := by omega
  have a2 : (n / 8192 * 1024 + n % 1024) % 1024 = n % 1024 := by omega
  have a3 : (n % 8192 / 1024 * 16 + e.val) / 16 = n % 8192 / 1024 := by omega
  have a4 : (n % 8192 / 1024 * 16 + e.val) % 16 = e.val := by omega
  have a5 : (n / 8192 * 1024 + n % 1024) / 1024 * 8192 + ((n % 8192 / 1024 * 16 + e.val) / 16 * 1024 + (n / 8192 * 1024 + n % 1024) % 1024) = n := by omega
  show (if h : (n / 8192 * 1024 + n % 1024) / 1024 * 8192 + ((n % 8192 / 1024 * 16 + e.val) / 16 * 1024 + (n / 8192 * 1024 + n % 1024) % 1024) < 1000000
    then t (at2 ⟨(n % 8192 / 1024 * 16 + e.val) % 16, _⟩ ⟨_, h⟩) else _) = _
  rw [dif_pos (by omega)]
  refine congrArg t (congrArg₂ at2 (Fin.ext a4) (Fin.ext a5))

/-- The movie super-table likewise. -/
theorem sup1_apply {E : S128x128.Idx → EReal} (hE : IsEye E) (t : S16x100000.Idx → EReal) (n : ℕ) (hn : n < 100000) (e : Fin 16)
    (h1 : n / 8192 * 1024 + n % 1024 < 13312) (h2 : n % 8192 / 1024 * 16 + e.val < 128) :
    sup1 (F := Ideal) E t (at2 ⟨n / 8192 * 1024 + n % 1024, h1⟩ ⟨n % 8192 / 1024 * 16 + e.val, h2⟩) = t (at2 e ⟨n, hn⟩) := by
  unfold sup1
  refine (pack_apply hE _ _ _).trans ?_
  have a4 : (n % 8192 / 1024 * 16 + e.val) % 16 = e.val := by omega
  have a5 : (n / 8192 * 1024 + n % 1024) / 1024 * 8192 + ((n % 8192 / 1024 * 16 + e.val) / 16 * 1024 + (n / 8192 * 1024 + n % 1024) % 1024) = n := by omega
  show (if h : (n / 8192 * 1024 + n % 1024) / 1024 * 8192 + ((n % 8192 / 1024 * 16 + e.val) / 16 * 1024 + (n / 8192 * 1024 + n % 1024) % 1024) < 100000
    then t (at2 ⟨(n % 8192 / 1024 * 16 + e.val) % 16, _⟩ ⟨_, h⟩) else _) = _
  rw [dif_pos (by omega)]
  refine congrArg t (congrArg₂ at2 (Fin.ext a4) (Fin.ext a5))

end Cert.Proof.Run
-- ==== Proof.Perceptron.lean ====
/-
  The perceptron's body over the reals with infinities: a block's row keeps the sixteen lanes its word names, zero
  elsewhere, so its products with the weights repeated eight times are the formula of those sixteen lanes.
-/
module

public import proofs.«01_k».proof.Proof.Formula
public import proofs.«01_k».proof.Proof.Pack
public import Idealize.ShloMosaic.Lib.Routing.Words

@[expose] public section

set_option maxRecDepth 8192

noncomputable section

namespace Cert.Proof.Run

open Cert.KernelIdeal Cert.KernelIdeal.Gen

open Idealize.ShloMosaic Idealize.ShloMosaic.StableHlo

open scoped BigOperators

/-- The lanes' group number as the body's words compute it from the lane's number: a truncating quotient by sixteen,
    lowered by one where the signs differ and the remainder is not zero. -/
def laneOf (w : BitVec 32) : BitVec 32 :=
  Scalar.select (IntOp.andi (IntOp.cmpi .ne (IntOp.subi (BitVec.setWidth 32 (IntOp.cmpi .sgt w 0#32)) (BitVec.setWidth 32 (IntOp.cmpi .slt w 0#32)))
        (IntOp.subi (BitVec.setWidth 32 (IntOp.cmpi .sgt 16#32 0#32)) (BitVec.setWidth 32 (IntOp.cmpi .slt 16#32 0#32))))
        (IntOp.cmpi .ne (IntOp.remsi .vector w 16#32) 0#32))
    (IntOp.subi (IntOp.divsi .vector w 16#32) 1#32) (IntOp.divsi .vector w 16#32)

/-- A lane number is not negative, so the quotient stands as it is. -/
theorem laneOf_word {l : ℕ} (hl : l < 128) : laneOf (BitVec.ofNat 32 l) = BitVec.ofNat 32 (l / 16) := by
  unfold laneOf
  rw [show (16#32 : BitVec 32) = BitVec.ofNat 32 16 from rfl, Routing.divsi_word .vector (by omega) (by decide) (by decide),
    Routing.remsi_word .vector (by omega) (by decide) (by decide)]
  revert hl
  revert l
  decide

/-- The lanes' group number, at an entry. -/
theorem lane_at (r : Fin 4096) (l : Fin 128) : (k3_pay2 (at2 r l) : BitVec 32) = BitVec.ofNat 32 (l.val / 16) := by
  have e : (k3_pay2 (at2 r l) : BitVec 32) = laneOf (iota .tc S4096x128 32 [1] iota_S4096x128_d1_w32 (at2 r l)) := rfl
  have hi : iota .tc S4096x128 32 [1] iota_S4096x128_d1_w32 (at2 r l) = BitVec.ofNat 32 l.val := by
    show BitVec.ofNat 32 (0 * 128 + l.val) = _
    rw [Nat.zero_mul, Nat.zero_add]
  rw [e, hi, laneOf_word l.isLt]

/-- A column of words spread over the lanes, at an entry. -/
theorem words_at (s : S4096x1.Idx → BitVec 32) (r : Fin 4096) (l : Fin 128) :
    broadcastTo S4096x128 (shapeCast S4096x1 s shapeCasts_S4096x1_S4096x1) broadcasts_S4096x1_S4096x128 (at2 r l) = s (at2 r 0) := by
  rw [shapeCast_self]
  exact broadcastTo_apply _ _ _ _ fun a => match a with | ⟨0, _⟩ => rfl | ⟨1, _⟩ => rfl

/-- A row masked to the lanes of the group its word names. -/
theorem mask_at (s : S4096x1.Idx → BitVec 32) (g : S4096x128.Idx → EReal) (r : Fin 4096) (l : Fin 128) (q : ℕ) (hq : q < 8)
    (hs : s (at2 r 0) = BitVec.ofNat 32 q) : (k3_pay3 (F := Ideal) s g (at2 r l) : EReal) = if l.val / 16 = q then g (at2 r l) else 0 := by
  show (if IntOp.cmpi .eq (k3_pay2 (at2 r l)) (broadcastTo S4096x128 (shapeCast S4096x1 s shapeCasts_S4096x1_S4096x1) broadcasts_S4096x1_S4096x128 (at2 r l)) = 1#1
    then (shapeCast S4096x128 g shapeCasts_S4096x128_S4096x128 (at2 r l) : EReal) else Ideal.ofBits .f32 0x00000000#32) = _
  rw [words_at, lane_at, hs, shapeCast_self, Ideal.ofBits_zero_f32, WordCmp.cmpi_eq_ofNat (w := 32) (by omega) (by omega)]
  by_cases h : l.val / 16 = q <;> simp [h]

/-- The second mask is the first. -/
theorem mask_at' (s : S4096x1.Idx → BitVec 32) (g : S4096x128.Idx → EReal) (r : Fin 4096) (l : Fin 128) (q : ℕ) (hq : q < 8)
    (hs : s (at2 r 0) = BitVec.ofNat 32 q) : (k3_pay4 (F := Ideal) s g (at2 r l) : EReal) = if l.val / 16 = q then g (at2 r l) else 0 :=
  mask_at s g r l q hq hs

/-- A sum over the lanes of products that vanish off group `q` is the sum over that group's sixteen lanes. -/
theorem group_sum (q : ℕ) (hq : q < 8) (f w : Fin 128 → EReal) :
    (∑ l : Fin 128, (if l.val / 16 = q then f l else 0) * w l) = ∑ e : Fin 16, f ⟨q * 16 + e.val, by omega⟩ * w ⟨q * 16 + e.val, by omega⟩ := by
  symm
  refine Fintype.sum_of_injective (fun e : Fin 16 => (⟨q * 16 + e.val, by omega⟩ : Fin 128)) ?_ _ _ ?_ ?_
  · intro a b h
    have := congrArg Fin.val h
    exact Fin.ext (by simpa using this)
  · intro l hl
    rw [if_neg, zero_mul]
    intro h
    exact hl ⟨⟨l.val % 16, by omega⟩, Fin.ext (by show q * 16 + l.val % 16 = l.val; omega)⟩
  · intro e
    rw [if_pos (by show (q * 16 + e.val) / 16 = q; omega)]

/-- A bias row spread over a block, at an entry. -/
theorem bias_at {n : ℕ} (b : (⟨2, ![1, n]⟩ : Shape).Idx → EReal) (hc : (⟨2, ![1, n]⟩ : Shape).numel = (⟨2, ![1, n]⟩ : Shape).numel)
    (h : (⟨2, ![1, n]⟩ : Shape).Broadcasts ⟨2, ![4096, n]⟩) (r : Fin 4096) (c : Fin n) :
    broadcastTo ⟨2, ![4096, n]⟩ (shapeCast ⟨2, ![1, n]⟩ b hc) h (at2 r c) = b (at2 0 c) := by
  rw [shapeCast_self, ← ix2_at2, ← ix2_at2]
  exact ValueIdx.broadcastTo_1b_ab_apply b h r c

/-- A block's maximum with zero, at an entry. -/
theorem relu_at {s : Shape} (x : FVec Ideal s .f32) (j : s.Idx) :
    maximumf x (broadcast s (Scalar.ofBits .f32 0x00000000#32 : Ideal .f32)) j = max (x j) 0 := by
  show max (x j) (Ideal.ofBits .f32 0x00000000#32) = _
  rw [Ideal.ofBits_zero_f32]

/-- A product with weights held in a buffer, at an entry. -/
theorem mmw_at {M K N : ℕ} (x : FVec Ideal ⟨2, ![M, K]⟩ .f32) (w : (⟨2, ![K, N]⟩ : Shape).Idx → EReal)
    (hc : (⟨2, ![K, N]⟩ : Shape).numel = (⟨2, ![K, N]⟩ : Shape).numel) (r : Fin M) (c : Fin N) :
    matmul (DotDims.plain M K N) none x (shapeCast ⟨2, ![K, N]⟩ w hc : FVec Ideal ⟨2, ![K, N]⟩ .f32) (constant ⟨2, ![M, N]⟩ .f32 0x00000000#32) (at2 r c)
      = ∑ k : Fin K, x (at2 r k) * w (at2 k c) := by
  rw [shapeCast_self]
  exact mm_apply x w r c

/-- The body's result at a row whose words name groups `p` and `q`. -/
theorem mlpOf_at (gu gm : S4096x128.Idx → EReal) (su sm : S4096x1.Idx → BitVec 32) (w1u w1m : S128x128.Idx → EReal) (b1 : S1x128.Idx → EReal)
    (w2 : S128x64.Idx → EReal) (b2 : S1x64.Idx → EReal) (w3 : S64x1.Idx → EReal) (b3 : S1x1.Idx → EReal) (r : Fin 4096)
    (p q : ℕ) (hp : p < 8) (hq : q < 8) (hsu : su (at2 r 0) = BitVec.ofNat 32 p) (hsm : sm (at2 r 0) = BitVec.ofNat 32 q)
    (W1 : (⟨2, ![128, 32]⟩ : Shape).Idx → EReal) (B1 : (⟨1, ![128]⟩ : Shape).Idx → EReal)
    (W2 : (⟨2, ![64, 128]⟩ : Shape).Idx → EReal) (B2 : (⟨1, ![64]⟩ : Shape).Idx → EReal)
    (W3 : (⟨2, ![1, 64]⟩ : Shape).Idx → EReal) (B3 : (⟨1, ![1]⟩ : Shape).Idx → EReal)
    (h1u : ∀ l k : Fin 128, w1u (at2 l k) = W1 (at2 k ⟨l.val % 16, by omega⟩)) (h1m : ∀ l k : Fin 128, w1m (at2 l k) = W1 (at2 k ⟨16 + l.val % 16, by omega⟩))
    (hb1 : ∀ k : Fin 128, b1 (at2 0 k) = B1 (at1 k)) (h2 : ∀ (k : Fin 128) (l : Fin 64), w2 (at2 k l) = W2 (at2 l k))
    (hb2 : ∀ l : Fin 64, b2 (at2 0 l) = B2 (at1 l)) (h3 : ∀ l : Fin 64, w3 (at2 l 0) = W3 (at2 0 l)) (hb3 : b3 (at2 0 0) = B3 (at1 0)) :
    (mlpOf (F := Ideal) gu gm su sm w1u w1m b1 w2 b2 w3 b3 (at2 r 0) : EReal)
      = score (fun e => gu (at2 r ⟨p * 16 + e.val, by omega⟩)) (fun e => gm (at2 r ⟨q * 16 + e.val, by omega⟩)) W1 B1 W2 B2 W3 B3 := by
  have half (x : FVec Ideal S4096x128 .f32) (g : S4096x128.Idx → EReal) (w : S128x128.Idx → EReal) (t : ℕ) (ht : t < 8) (k : Fin 128) (o : ℕ) (ho : o + 16 ≤ 32)
      (hx : ∀ l : Fin 128, (x (at2 r l) : EReal) = if l.val / 16 = t then g (at2 r l) else 0)
      (hw : ∀ l : Fin 128, w (at2 l k) = W1 (at2 k ⟨o + l.val % 16, by omega⟩)) :
      (matmul dot_S4096x128_S128x128_S4096x128_1_0_0_1_n_n none x (shapeCast S128x128 w shapeCasts_S128x128_S128x128 : FVec Ideal S128x128 .f32) (constant S4096x128 .f32 0x00000000#32) (at2 r k) : EReal)
        = ∑ e : Fin 16, g (at2 r ⟨t * 16 + e.val, by omega⟩) * W1 (at2 k ⟨o + e.val, by omega⟩) := by
    refine (mmw_at (M := 4096) (K := 128) (N := 128) x w _ r k).trans ?_
    simp only [hx, hw]
    refine (group_sum t ht (fun l => g (at2 r l)) (fun l => W1 (at2 k ⟨o + l.val % 16, by omega⟩))).trans ?_
    refine Finset.sum_congr rfl fun e _ => ?_
    have he : (t * 16 + e.val) % 16 = e.val := by omega
    simp only [he]
  unfold mlpOf k3_pay1
  refine congrArg₂ (· + ·) ?_ ((bias_at (n := 1) b3 _ _ r 0).trans hb3)
  refine (mmw_at (M := 4096) (K := 64) (N := 1) _ w3 _ r 0).trans (Finset.sum_congr rfl fun l _ => congrArg₂ (· * ·) ?_ (h3 l))
  refine (relu_at _ _).trans (congrArg (max · 0) (congrArg₂ (· + ·) ?_ ((bias_at (n := 64) b2 _ _ r l).trans (hb2 l))))
  refine (mmw_at (M := 4096) (K := 128) (N := 64) _ w2 _ r l).trans (Finset.sum_congr rfl fun k _ => congrArg₂ (· * ·) ?_ (h2 k l))
  refine (relu_at _ _).trans (congrArg (max · 0) (congrArg₂ (· + ·) (congrArg₂ (· + ·) ?_ ?_) ((bias_at (n := 128) b1 _ _ r k).trans (hb1 k))))
  · refine (half _ gu w1u p hp k 0 (by omega) (fun l => mask_at su gu r l p hp hsu) fun l => (h1u l k).trans ?_).trans ?_
    · simp only [Nat.zero_add]
    · simp only [Nat.zero_add]
  · exact half _ gm w1m q hq k 16 (by omega) (fun l => mask_at' sm gm r l q hq hsm) fun l => h1m l k

end Cert.Proof.Run
-- ==== Proof.RefValue.lean ====
/-
  The reference's result at a row of the batch: the formula of the user row and the movie row its two indices name.
-/
module

public import proofs.«01_k».proof.Proof.Formula
public import proofs.«01_k».proof.Proof.Gen.ReferenceIdeal.Run
public import Idealize.ShloMosaic.Lib.StackMember
public import Idealize.ShloMosaic.Lib.ReduceAll
public import Idealize.ShloMosaic.Lib.ValueLayout
public import Idealize.ShloMosaic.Lib.Routing.Ops
public import Idealize.ShloMosaic.Lib.Routing.OpsPair

@[expose] public section

set_option maxRecDepth 8192

noncomputable section

namespace Cert.Proof.RefRead

open Cert.ReferenceIdeal Cert.ReferenceIdeal.Gen

open Idealize.ShloMosaic Cert.Proof.Run

open scoped BigOperators

/-- The library's index of a matrix entry is ours. -/
theorem ix2_eq {n k : ℕ} (r : Fin n) (l : Fin k) : ValueIdx.ix2 r l = at2 r l := (eta2 _).trans rfl

/-! ## The host's layer -/

/-- A host product at an entry. -/
theorem dot_at {M K N : ℕ} (lhs : FVec Ideal ⟨2, ![M, K]⟩ .f32) (rhs : FVec Ideal ⟨2, ![K, N]⟩ .f32) (r : Fin M) (c : Fin N) :
    Host.dotGeneral (DotDims.plain M K N) none lhs rhs (at2 r c) = ∑ k : Fin K, lhs (at2 r k) * rhs (at2 k c) := by
  rw [← ix2_eq, StackMember.dotGeneral_plain_apply]
  simp only [ix2_eq]

/-- A matrix transposed, at an entry. -/
theorem tr_at {α : Type} {a b : ℕ} (x : (⟨2, ![a, b]⟩ : Shape).Idx → α) (h : (⟨2, ![a, b]⟩ : Shape).Transposes [1, 0] ⟨2, ![b, a]⟩)
    (j : Fin b) (i : Fin a) : transpose ⟨2, ![b, a]⟩ [1, 0] x h (at2 j i) = x (at2 i j) := by
  rw [← ix2_eq, ← ix2_eq]
  exact ValueIdx.transpose_ix2_apply x h j i

/-- A bias row spread over the batch, at an entry. -/
theorem bias_at {α : Type} {n M : ℕ} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![M, n]⟩ (![0, 1] : Fin 2 → Fin 2)) (r : Fin M) (c : Fin n) :
    broadcastInDim ⟨2, ![M, n]⟩ ![0, 1] h2 (broadcastInDim ⟨2, ![1, n]⟩ ![1] h1 b) (at2 r c) = b (at1 c) := by
  refine (broadcastInDim_apply ![0, 1] h2 _ (at2 r c) (at2 0 c) fun a => ?_).trans
    (broadcastInDim_apply ![1] h1 b (at2 0 c) (at1 c) fun a => ?_)
  · match a with
    | ⟨0, _⟩ => rfl
    | ⟨1, _⟩ =>
      show c.val = if n = 1 then 0 else c.val
      split
      · have := c.isLt; omega
      · rfl
  · match a with
    | ⟨0, _⟩ =>
      show c.val = if n = 1 then 0 else c.val
      split
      · have := c.isLt; omega
      · rfl

/-- A host layer before its maximum, at an entry. -/
theorem lin_at {M K N : ℕ} (x : FVec Ideal ⟨2, ![M, K]⟩ .f32) (W : FVec Ideal ⟨2, ![N, K]⟩ .f32) (b : FVec Ideal ⟨1, ![N]⟩ .f32)
    (ht : (⟨2, ![N, K]⟩ : Shape).Transposes [1, 0] ⟨2, ![K, N]⟩)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (c : Fin N) :
    addf (Host.dotGeneral (DotDims.plain M K N) none x (transpose ⟨2, ![K, N]⟩ [1, 0] W ht))
        (broadcastInDim ⟨2, ![M, N]⟩ ![0, 1] h2 (broadcastInDim ⟨2, ![1, N]⟩ ![1] h1 b)) (at2 r c)
      = (∑ k : Fin K, x (at2 r k) * W (at2 c k)) + b (at1 c) := by
  show (Host.dotGeneral (DotDims.plain M K N) none x (transpose ⟨2, ![K, N]⟩ [1, 0] W ht) (at2 r c) : EReal)
    + broadcastInDim ⟨2, ![M, N]⟩ ![0, 1] h2 (broadcastInDim ⟨2, ![1, N]⟩ ![1] h1 b) (at2 r c) = _
  rw [dot_at, bias_at]
  exact congrArg (· + b (at1 c)) (Finset.sum_congr rfl fun k _ => congrArg (x (at2 r k) * ·) (tr_at W ht k c))

/-- The maximum with a spread zero, at an entry. -/
theorem relu_at {s : Shape} (x : FVec Ideal s .f32) (h : S_.BroadcastsInDim s (![] : Fin 0 → Fin s.rank)) (j : s.Idx) :
    maximumf x (broadcastInDim s ![] h (constant S_ .f32 0x00000000#32)) j = max (x j) 0 := by
  show max (x j) (Ideal.ofBits .f32 0x00000000#32) = _
  rw [Ideal.ofBits_zero_f32]

/-! ## The table rows -/

/-- An index that is not negative is not wrapped. -/
theorem wrap_at (N : BitVec 32) (a : IVec S16384 32) (r : Fin 16384) (ha : (a (at1 r)).toNat < 2 ^ 31) :
    broadcastInDim S16384x1 ![0] bcast_S16384_S16384x1_0
      (select (cmpi .slt a (broadcastInDim S16384 ![] bcast_S_S16384 (constantI S_ 32 0#32)))
        (addi a (broadcastInDim S16384 ![] bcast_S_S16384 (constantI S_ 32 N))) a) (at2 r 0) = a (at1 r) := by
  refine (broadcastInDim_apply ![0] _ _ (at2 r (0 : Fin 1)) (at1 r) fun a' => ?_).trans ?_
  · match a' with
    | ⟨0, _⟩ => rfl
  · exact Routing.wrap_of_lt _ _ ha

/-- A column spread over the lanes, at an entry. -/
theorem spread_at (x : IVec S16384 1) (r : Fin 16384) (e : Fin 16) :
    broadcastInDim S16384x16 ![0] bcast_S16384_S16384x16_0 x (at2 r e) = x (at1 r) :=
  broadcastInDim_apply ![0] _ _ (at2 r e) (at1 r) fun a' => match a' with | ⟨0, _⟩ => rfl

/-- A row of the batch whose index is in the table's range passes the check. -/
theorem mask_at (w : IVec S16384x1 32) (top : BitVec 32) (r : Fin 16384) (e : Fin 16)
    (hw : ∀ i, IntOp.andi (IntOp.cmpi .sge (w i) 0#32) (IntOp.cmpi .sle (w i) top) = 1#1) :
    broadcastInDim S16384x16 ![0] bcast_S16384_S16384x16_0 (Host.reduce IntOp.andi (andi (cmpi .sge w (broadcastInDim S16384x1 ![] bcast_S_S16384x1 (constantI S_ 32 0#32)))
        (cmpi .sle w (broadcastInDim S16384x1 ![0, 1] bcast_S1x1_S16384x1_0_1 (broadcastInDim S1x1 ![1] bcast_S1_S1x1_1 (constantI S1 32 top)))))
      (constantI S_ 1 1#1) reducesTo_S16384x1_S16384_d1 h_S_) (at2 r e) = 1#1 := by
  rw [spread_at]
  exact Host.reduce_andi_one _ (constantI S_ 1 1#1) reducesTo_S16384x1_S16384_d1 h_S_ (at1 r) rfl (fun i => hw i)

/-- The range check of a word below `n + 1`. -/
theorem check_of_lt {w : BitVec 32} {n : ℕ} (hn : n < 2 ^ 31) (h : w.toNat < n + 1) :
    IntOp.andi (IntOp.cmpi .sge w 0#32) (IntOp.cmpi .sle w (BitVec.ofNat 32 n)) = 1#1 := by
  have e : w = BitVec.ofNat 32 w.toNat := by simp
  generalize w.toNat = k at e h
  subst e
  have h1 : IntOp.cmpi .sge (BitVec.ofNat 32 k) (BitVec.ofNat 32 0) = 1#1 :=
    (WordCmp.cmpi_sge_ofNat_eq_one_iff (w := 32) (by show k < 2 ^ 31; omega) (by decide)).2 (Nat.zero_le _)
  have h2 : IntOp.cmpi .sle (BitVec.ofNat 32 k) (BitVec.ofNat 32 n) = 1#1 :=
    (WordCmp.cmpi_sle_ofNat_eq_one_iff (w := 32) (by show k < 2 ^ 31; omega) hn).2 (by omega)
  rw [h1, h2]
  rfl

/-- A choice whose bit is set takes the first. -/
theorem select_of_one {s : Shape} {α : Type} (c : IVec s 1) (x y : s.Idx → α) (j : s.Idx) (h : c j = 1#1) : select c x y j = x j :=
  if_pos h

/-- A user row looked up. -/
theorem takeU_at (t : FVec Ideal S1000000x16 .f32) (a : IVec S16384 32) (ha : ∀ j, (a j).toNat < 1000000) (r : Fin 16384) (e : Fin 16) :
    select (broadcastInDim S16384x16 ![0] bcast_S16384_S16384x16_0 (Host.reduce IntOp.andi (andi (cmpi .sge (broadcastInDim S16384x1 ![0] bcast_S16384_S16384x1_0 (select (cmpi .slt a (broadcastInDim S16384 ![] bcast_S_S16384 (constantI S_ 32 0#32))) (addi a (broadcastInDim S16384 ![] bcast_S_S16384 (constantI S_ 32 1000000#32))) a)) (broadcastInDim S16384x1 ![] bcast_S_S16384x1 (constantI S_ 32 0#32))) (cmpi .sle (broadcastInDim S16384x1 ![0] bcast_S16384_S16384x1_0 (select (cmpi .slt a (broadcastInDim S16384 ![] bcast_S_S16384 (constantI S_ 32 0#32))) (addi a (broadcastInDim S16384 ![] bcast_S_S16384 (constantI S_ 32 1000000#32))) a)) (broadcastInDim S16384x1 ![0, 1] bcast_S1x1_S16384x1_0_1 (broadcastInDim S1x1 ![1] bcast_S1_S1x1_1 (constantI S1 32 999999#32))))) (constantI S_ 1 1#1) reducesTo_S16384x1_S16384_d1 h_S_)) (Host.gather gather_S1000000x16_S16384x1_S16384x16_1_0_n_n_0_1_116 t (broadcastInDim S16384x1 ![0] bcast_S16384_S16384x1_0 (select (cmpi .slt a (broadcastInDim S16384 ![] bcast_S_S16384 (constantI S_ 32 0#32))) (addi a (broadcastInDim S16384 ![] bcast_S_S16384 (constantI S_ 32 1000000#32))) a))) (broadcastInDim S16384x16 ![] bcast_S_S16384x16 (constant S_ .f32 0x7FC00000#32)) (at2 r e)
      = t (at2 ⟨(a (at1 r)).toNat, ha _⟩ e) := by
  have hw (i : S16384x1.Idx) : broadcastInDim S16384x1 ![0] bcast_S16384_S16384x1_0 (select (cmpi .slt a (broadcastInDim S16384 ![] bcast_S_S16384 (constantI S_ 32 0#32))) (addi a (broadcastInDim S16384 ![] bcast_S_S16384 (constantI S_ 32 1000000#32))) a) i = a (at1 (i 0)) := by
    have e0 : i = at2 (i 0) 0 := (eta2 i).trans (congrArg (at2 (i 0)) (Fin.ext (by have : (i 1).val < 1 := (i 1).isLt; show (i 1).val = 0; omega)))
    rw [e0]
    exact wrap_at _ a (i 0) (lt_trans (ha _) (by decide))
  generalize broadcastInDim S16384x1 ![0] bcast_S16384_S16384x1_0 (select (cmpi .slt a (broadcastInDim S16384 ![] bcast_S_S16384 (constantI S_ 32 0#32))) (addi a (broadcastInDim S16384 ![] bcast_S_S16384 (constantI S_ 32 1000000#32))) a) = w at hw ⊢
  have hm := mask_at w 999999#32 r e fun i => by rw [hw]; exact check_of_lt (n := 999999) (by decide) (ha _)
  refine (select_of_one _ _ _ _ hm).trans ?_
  rw [← ix2_eq, ← ix2_eq]
  exact Routing.gather_row gather_S1000000x16_S16384x1_S16384x16_1_0_n_n_0_1_116 rfl rfl rfl rfl rfl t w r e ⟨(a (at1 r)).toNat, ha _⟩
    (by rw [hw]; simp [at1, ValueIdx.ix2]) (by decide)

/-- A movie row looked up. -/
theorem takeM_at (t : FVec Ideal S100000x16 .f32) (a : IVec S16384 32) (ha : ∀ j, (a j).toNat < 100000) (r : Fin 16384) (e : Fin 16) :
    select (broadcastInDim S16384x16 ![0] bcast_S16384_S16384x16_0 (Host.reduce IntOp.andi (andi (cmpi .sge (broadcastInDim S16384x1 ![0] bcast_S16384_S16384x1_0 (select (cmpi .slt a (broadcastInDim S16384 ![] bcast_S_S16384 (constantI S_ 32 0#32))) (addi a (broadcastInDim S16384 ![] bcast_S_S16384 (constantI S_ 32 100000#32))) a)) (broadcastInDim S16384x1 ![] bcast_S_S16384x1 (constantI S_ 32 0#32))) (cmpi .sle (broadcastInDim S16384x1 ![0] bcast_S16384_S16384x1_0 (select (cmpi .slt a (broadcastInDim S16384 ![] bcast_S_S16384 (constantI S_ 32 0#32))) (addi a (broadcastInDim S16384 ![] bcast_S_S16384 (constantI S_ 32 100000#32))) a)) (broadcastInDim S16384x1 ![0, 1] bcast_S1x1_S16384x1_0_1 (broadcastInDim S1x1 ![1] bcast_S1_S1x1_1 (constantI S1 32 99999#32))))) (constantI S_ 1 1#1) reducesTo_S16384x1_S16384_d1 h_S_)) (Host.gather gather_S100000x16_S16384x1_S16384x16_1_0_n_n_0_1_116 t (broadcastInDim S16384x1 ![0] bcast_S16384_S16384x1_0 (select (cmpi .slt a (broadcastInDim S16384 ![] bcast_S_S16384 (constantI S_ 32 0#32))) (addi a (broadcastInDim S16384 ![] bcast_S_S16384 (constantI S_ 32 100000#32))) a))) (broadcastInDim S16384x16 ![] bcast_S_S16384x16 (constant S_ .f32 0x7FC00000#32)) (at2 r e)
      = t (at2 ⟨(a (at1 r)).toNat, ha _⟩ e) := by
  have hw (i : S16384x1.Idx) : broadcastInDim S16384x1 ![0] bcast_S16384_S16384x1_0 (select (cmpi .slt a (broadcastInDim S16384 ![] bcast_S_S16384 (constantI S_ 32 0#32))) (addi a (broadcastInDim S16384 ![] bcast_S_S16384 (constantI S_ 32 100000#32))) a) i = a (at1 (i 0)) := by
    have e0 : i = at2 (i 0) 0 := (eta2 i).trans (congrArg (at2 (i 0)) (Fin.ext (by have : (i 1).val < 1 := (i 1).isLt; show (i 1).val = 0; omega)))
    rw [e0]
    exact wrap_at _ a (i 0) (lt_trans (ha _) (by decide))
  generalize broadcastInDim S16384x1 ![0] bcast_S16384_S16384x1_0 (select (cmpi .slt a (broadcastInDim S16384 ![] bcast_S_S16384 (constantI S_ 32 0#32))) (addi a (broadcastInDim S16384 ![] bcast_S_S16384 (constantI S_ 32 100000#32))) a) = w at hw ⊢
  have hm := mask_at w 99999#32 r e fun i => by rw [hw]; exact check_of_lt (n := 99999) (by decide) (ha _)
  refine (select_of_one _ _ _ _ hm).trans ?_
  rw [← ix2_eq, ← ix2_eq]
  exact Routing.gather_row gather_S100000x16_S16384x1_S16384x16_1_0_n_n_0_1_116 rfl rfl rfl rfl rfl t w r e ⟨(a (at1 r)).toNat, ha _⟩
    (by rw [hw]; simp [at1, ValueIdx.ix2]) (by decide)

/-! ## The result -/

/-- The three layers over a batch of joined rows, at a row. -/
theorem net_at (x : FVec Ideal S16384x32 .f32) (W1 : FVec Ideal S128x32 .f32) (b1 : FVec Ideal S128 .f32) (W2 : FVec Ideal S64x128 .f32)
    (b2 : FVec Ideal S64 .f32) (W3 : FVec Ideal S1x64 .f32) (b3 : FVec Ideal S1 .f32) (r : Fin 16384) (u v : Fin 16 → EReal)
    (hu : ∀ e : Fin 16, x (at2 r ⟨e.val, by omega⟩) = u e) (hv : ∀ e : Fin 16, x (at2 r ⟨16 + e.val, by omega⟩) = v e) :
    addf (Host.dotGeneral dot_S16384x64_S64x1_S16384x1_1_0_0_1_n_n none (maximumf (addf (Host.dotGeneral dot_S16384x128_S128x64_S16384x64_1_0_0_1_n_n none (maximumf (addf (Host.dotGeneral dot_S16384x32_S32x128_S16384x128_1_0_0_1_n_n none x (transpose S32x128 [1, 0] W1 transposes_S128x32_S32x128_1_0)) (broadcastInDim S16384x128 ![0, 1] bcast_S1x128_S16384x128_0_1 (broadcastInDim S1x128 ![1] bcast_S128_S1x128_1 b1))) (broadcastInDim S16384x128 ![] bcast_S_S16384x128 (constant S_ .f32 0x00000000#32))) (transpose S128x64 [1, 0] W2 transposes_S64x128_S128x64_1_0)) (broadcastInDim S16384x64 ![0, 1] bcast_S1x64_S16384x64_0_1 (broadcastInDim S1x64 ![1] bcast_S64_S1x64_1 b2))) (broadcastInDim S16384x64 ![] bcast_S_S16384x64 (constant S_ .f32 0x00000000#32))) (transpose S64x1 [1, 0] W3 transposes_S1x64_S64x1_1_0)) (broadcastInDim S16384x1 ![0, 1] bcast_S1x1_S16384x1_0_1 (broadcastInDim S1x1 ![1] bcast_S1_S1x1_1 b3)) (at2 r 0)
      = score u v W1 b1 W2 b2 W3 b3 := by
  refine (lin_at (M := 16384) (K := 64) (N := 1) _ W3 b3 _ _ _ r 0).trans ?_
  refine congrArg (· + b3 (at1 0)) (Finset.sum_congr rfl fun l _ => congrArg (· * W3 (at2 0 l)) ?_)
  refine (relu_at _ _ _).trans (congrArg (max · 0) ?_)
  refine (lin_at (M := 16384) (K := 128) (N := 64) _ W2 b2 _ _ _ r l).trans ?_
  refine congrArg (· + b2 (at1 l)) (Finset.sum_congr rfl fun k _ => congrArg (· * W2 (at2 l k)) ?_)
  refine (relu_at _ _ _).trans (congrArg (max · 0) ?_)
  refine (lin_at (M := 16384) (K := 32) (N := 128) _ W1 b1 _ _ _ r k).trans (congrArg (· + b1 (at1 k)) ?_)
  refine (Fin.sum_univ_add (a := 16) (b := 16) fun i : Fin (16 + 16) => (x (at2 r i) : EReal) * W1 (at2 k i)).trans ?_
  exact congrArg₂ (· + ·) (Finset.sum_congr rfl fun e _ => congrArg (· * W1 (at2 k ⟨e.val, _⟩)) (hu e))
    (Finset.sum_congr rfl fun e _ => congrArg (· * W1 (at2 k ⟨16 + e.val, _⟩)) (hv e))

/-- Two blocks of rows joined along the lanes: the first sixteen lanes. -/
theorem join_left (x y : FVec Ideal S16384x16 .f32) (h : Shape.Concatenates [S16384x16, S16384x16] S16384x32 1) (r : Fin 16384) (e : Fin 16) :
    concatenate S16384x32 1 [⟨S16384x16, x⟩, ⟨S16384x16, y⟩] h (at2 r ⟨e.val, by omega⟩) = x (at2 r e) :=
  concatenate_pair_apply_left _ x y h _ rfl (at2 r e) fun b => match b with | ⟨0, _⟩ => rfl | ⟨1, _⟩ => rfl

/-- The last sixteen. -/
theorem join_right (x y : FVec Ideal S16384x16 .f32) (h : Shape.Concatenates [S16384x16, S16384x16] S16384x32 1) (r : Fin 16384) (e : Fin 16) :
    concatenate S16384x32 1 [⟨S16384x16, x⟩, ⟨S16384x16, y⟩] h (at2 r ⟨16 + e.val, by omega⟩) = y (at2 r e) :=
  concatenate_pair_apply_right _ x y h _ rfl rfl (at2 r e) (fun b hb => match b, hb with | ⟨0, _⟩, _ => rfl | ⟨1, _⟩, hb => absurd rfl hb)
    (Nat.add_comm _ _)

/-- The reference's result at a row of the batch. -/
theorem res_at (m : (ℓ : Loc nD τ sig) → Buf (Elt Ideal) ℓ) (c : Dev nD)
    (hu : ∀ j, ((m ((c.tc : Thread nD τ).loc main_arg0) : IVec S16384 32) j).toNat < 1000000)
    (hv : ∀ j, ((m ((c.tc : Thread nD τ).loc main_arg1) : IVec S16384 32) j).toNat < 100000) (r : Fin 16384) :
    (Value.res_main_v19 m c : FVec Ideal S16384x1 .f32) (at2 r 0)
      = score (fun e => (m ((c.tc : Thread nD τ).loc main_arg2) : FVec Ideal S1000000x16 .f32) (at2 ⟨_, hu (at1 r)⟩ e))
        (fun e => (m ((c.tc : Thread nD τ).loc main_arg3) : FVec Ideal S100000x16 .f32) (at2 ⟨_, hv (at1 r)⟩ e))
        (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) := by
  unfold Value.res_main_v19
  exact net_at _ _ _ _ _ _ _ r _ _ (fun e => (join_left _ _ _ r e).trans (takeU_at _ _ hu r e))
    (fun e => (join_right _ _ _ r e).trans (takeM_at _ _ hv r e))

end Cert.Proof.RefRead
-- ==== Proof.Algebraic.lean ====
/-
  The kernel's result over the reals with infinities, and the algebraic claim: at every row of the batch both programs
  end at the formula of the user row and the movie row the two indices name.
-/
module

public import proofs.«01_k».proof.Proof.Frames
public import proofs.«01_k».proof.Proof.Perceptron
public import proofs.«01_k».proof.Proof.RefValue

@[expose] public section

set_option maxRecDepth 8192

noncomputable section

namespace Cert.Proof.Run

open Cert.KernelIdeal Cert.KernelIdeal.Gen

open Idealize.ShloMosaic Idealize.ShloMosaic.StableHlo

/-! ## The rows the perceptron reads -/

/-- A block's row at an entry is the batch's row. -/
theorem rows_at {α : Type} {n : ℕ} (f : (⟨2, ![16384, n]⟩ : Shape).Idx → α) (R : Fin 16384) (l : Fin n) :
    rows ⟨R.val / 4096, by omega⟩ f (at2 ⟨R.val % 4096, Nat.mod_lt _ (by decide)⟩ l) = f (at2 R l) :=
  congrArg (fun a => f (at2 a l)) (Fin.ext (Nat.div_add_mod R.val 4096))

/-- The lanes the perceptron keeps of a gathered user row are the table's row. -/
theorem gathU_at {E : S128x128.Idx → EReal} (hE : IsEye E) (t : S16x1000000.Idx → EReal) (ix : S16384.Idx → BitVec 32) (R : Fin 16384) (n : ℕ)
    (hn : n < 1000000) (hix : (ix (at1 R)).toNat = n / 8192 * 1024 + n % 1024) (e : Fin 16) :
    (gathU (F := Ideal) (sup0 (F := Ideal) E t) ix (at2 R ⟨n % 8192 / 1024 * 16 + e.val, by omega⟩) : EReal) = t (at2 e ⟨n, hn⟩) := by
  refine Eq.trans ?_ (sup0_apply hE t n hn e (by omega) (by omega))
  refine congrArg (fun a => sup0 (F := Ideal) E t (at2 a _)) (Fin.ext ?_)
  show (ix (at1 R)).toNat % 125952 = _
  rw [hix]
  exact Nat.mod_eq_of_lt (by omega)

/-- The same of a gathered movie row. -/
theorem gathM_at {E : S128x128.Idx → EReal} (hE : IsEye E) (t : S16x100000.Idx → EReal) (ix : S16384.Idx → BitVec 32) (R : Fin 16384) (n : ℕ)
    (hn : n < 100000) (hix : (ix (at1 R)).toNat = n / 8192 * 1024 + n % 1024) (e : Fin 16) :
    (gathM (F := Ideal) (sup1 (F := Ideal) E t) ix (at2 R ⟨n % 8192 / 1024 * 16 + e.val, by omega⟩) : EReal) = t (at2 e ⟨n, hn⟩) := by
  refine Eq.trans ?_ (sup1_apply hE t n hn e (by omega) (by omega))
  refine congrArg (fun a => sup1 (F := Ideal) E t (at2 a _)) (Fin.ext ?_)
  show (ix (at1 R)).toNat % 13312 = _
  rw [hix]
  exact Nat.mod_eq_of_lt (by omega)

/-- The row group of a word, as a word. -/
theorem wsub_eq {w : BitVec 32} (hw : w.toNat < 2 ^ 31) : wsub w = BitVec.ofNat 32 (w.toNat % 8192 / 1024) := by
  conv_lhs => rw [ofNat_self w]
  exact wsub_word hw

/-! ## The kernel's result -/

variable (m : (ℓ : Loc nD τ sig) → Buf (Elt Ideal) ℓ)

/-- The identity matrix the host lines build. -/
theorem eye_W1 (d : Dev nD) : IsEye (W1 m d (dr main_v21)) := by
  rw [W1_v21]
  exact eye_isEye

/-- The gathered user rows' kept lanes, read from the user table. -/
theorem user_row (hb : Bounded m) (d : Dev nD) (R : Fin 16384) (e : Fin 16) (n : ℕ)
    (hn : n = (show BitVec 32 from m (d, dr main_arg0) (at1 R)).toNat) (h : n < 1000000) :
    ((show S16384x128.Idx → EReal from W6 m d (dr main_v26_0)) (at2 R ⟨n % 8192 / 1024 * 16 + e.val, by omega⟩))
      = (show S1000000x16.Idx → EReal from m (d, dr main_arg2)) (at2 ⟨n, h⟩ e) := by
  rw [W6_v26_0]
  show (gathU (F := Ideal) (W4 m d (dr main_v23)) (W4 m d (dr main_v4)) (at2 R _) : EReal) = _
  rw [W4_v23, W4_v4]
  refine (gathU_at (eye_W1 m d) _ _ R n h ?_ e).trans ?_
  · rw [hn]
    exact wsuper_toNat (lt_trans (hb.u d (at1 R)) (by decide))
  · rw [W1_v22]; rfl

/-- The gathered movie rows' kept lanes, read from the movie table. -/
theorem movie_row (hb : Bounded m) (d : Dev nD) (R : Fin 16384) (e : Fin 16) (n : ℕ)
    (hn : n = (show BitVec 32 from m (d, dr main_arg1) (at1 R)).toNat) (h : n < 100000) :
    ((show S16384x128.Idx → EReal from W6 m d (dr main_v26_1)) (at2 R ⟨n % 8192 / 1024 * 16 + e.val, by omega⟩))
      = (show S100000x16.Idx → EReal from m (d, dr main_arg3)) (at2 ⟨n, h⟩ e) := by
  rw [W6_v26_1]
  show (gathM (F := Ideal) (W4 m d (dr main_v25)) (W4 m d (dr main_v12)) (at2 R _) : EReal) = _
  rw [W4_v25, W4_v12]
  refine (gathM_at (eye_W1 m d) _ _ R n h ?_ e).trans ?_
  · rw [hn]
    exact wsuper_toNat (lt_trans (hb.v d (at1 R)) (by decide))
  · rw [W3_v24]; rfl

/-- The kernel's result at a row of the batch. -/
theorem result_at (hb : Bounded m) (d : Dev nD) (R : Fin 16384) :
    (show S16384x1.Idx → EReal from W7 m d (dr main_v42)) (at2 R 0)
      = score (fun e => (show S1000000x16.Idx → EReal from m (d, dr main_arg2)) (at2 ⟨_, hb.u d (at1 R)⟩ e))
        (fun e => (show S100000x16.Idx → EReal from m (d, dr main_arg3)) (at2 ⟨_, hb.v d (at1 R)⟩ e))
        (m (d, dr main_arg4)) (m (d, dr main_arg5)) (m (d, dr main_arg6)) (m (d, dr main_arg7)) (m (d, dr main_arg8)) (m (d, dr main_arg9)) := by
  have hu := hb.u d (at1 R)
  have hv := hb.v d (at1 R)
  have e7 : W7 m d (dr main_v42) = mlpAll (F := Ideal) (W6 m d) := by
    rw [W7_eq]; exact Function.update_self (dr main_v42) _ _
  rw [e7]
  refine (mlpOf_at _ _ _ _ _ _ _ _ _ _ _ _ ((show BitVec 32 from m (d, dr main_arg0) (at1 R)).toNat % 8192 / 1024)
    ((show BitVec 32 from m (d, dr main_arg1) (at1 R)).toNat % 8192 / 1024) (by omega) (by omega) ?_ ?_ (m (d, dr main_arg4)) (m (d, dr main_arg5)) (m (d, dr main_arg6))
    (m (d, dr main_arg7)) (m (d, dr main_arg8)) (m (d, dr main_arg9)) ?_ ?_ ?_ ?_ ?_ ?_ ?_).trans ?_
  · refine (rows_at _ R 0).trans ?_
    rw [W6_v7]
    exact wsub_eq (lt_trans hu (by decide))
  · refine (rows_at _ R 0).trans ?_
    rw [W6_v15]
    exact wsub_eq (lt_trans hv (by decide))
  · intro l k; rw [W6_v31]; rfl
  · intro l k; rw [W6_v36]; rfl
  · intro k; rw [W6_v39]; rfl
  · intro k l; rw [W6_v37]; rfl
  · intro l; rw [W6_v40]; rfl
  · intro l; rw [W6_v38]; rfl
  · rw [W6_v41]
  · refine congrArg₂ (fun a b => score a b _ _ _ _ _ _) (funext fun e => ?_) (funext fun e => ?_)
    · exact (rows_at _ R _).trans (user_row m hb d R e _ rfl hu)
    · exact (rows_at _ R _).trans (movie_row m hb d R e _ rfl hv)

/-! ## The claim -/

/-- The formula of equal rows and weights. -/
theorem score_congr {u u' v v' : Fin 16 → EReal} {W1 W1' : (⟨2, ![128, 32]⟩ : Shape).Idx → EReal} {b1 b1' : (⟨1, ![128]⟩ : Shape).Idx → EReal}
    {W2 W2' : (⟨2, ![64, 128]⟩ : Shape).Idx → EReal} {b2 b2' : (⟨1, ![64]⟩ : Shape).Idx → EReal}
    {W3 W3' : (⟨2, ![1, 64]⟩ : Shape).Idx → EReal} {b3 b3' : (⟨1, ![1]⟩ : Shape).Idx → EReal}
    (hu : u = u') (hv : v = v') (h1 : W1 = W1') (h2 : b1 = b1') (h3 : W2 = W2') (h4 : b2 = b2') (h5 : W3 = W3') (h6 : b3 = b3') :
    score u v W1 b1 W2 b2 W3 b3 = score u' v' W1' b1' W2' b2' W3' b3' := by
  subst hu hv h1 h2 h3 h4 h5 h6; rfl

/-- From memories agreeing on the arguments, the two results are equal. -/
theorem results_eq (hb : Bounded m) (m' : (ℓ : Loc Cert.ReferenceIdeal.nD Cert.ReferenceIdeal.τ Cert.ReferenceIdeal.sig) → Buf (Elt Ideal) ℓ) (d : Dev nD)
    (h0 : m' ((d.tc : Thread Cert.ReferenceIdeal.nD Cert.ReferenceIdeal.τ).loc Cert.ReferenceIdeal.main_arg0) = m ((d.tc : Thread nD τ).loc main_arg0))
    (h1 : m' ((d.tc : Thread Cert.ReferenceIdeal.nD Cert.ReferenceIdeal.τ).loc Cert.ReferenceIdeal.main_arg1) = m ((d.tc : Thread nD τ).loc main_arg1))
    (h2 : m' ((d.tc : Thread Cert.ReferenceIdeal.nD Cert.ReferenceIdeal.τ).loc Cert.ReferenceIdeal.main_arg2) = m ((d.tc : Thread nD τ).loc main_arg2))
    (h3 : m' ((d.tc : Thread Cert.ReferenceIdeal.nD Cert.ReferenceIdeal.τ).loc Cert.ReferenceIdeal.main_arg3) = m ((d.tc : Thread nD τ).loc main_arg3))
    (h4 : m' ((d.tc : Thread Cert.ReferenceIdeal.nD Cert.ReferenceIdeal.τ).loc Cert.ReferenceIdeal.main_arg4) = m ((d.tc : Thread nD τ).loc main_arg4))
    (h5 : m' ((d.tc : Thread Cert.ReferenceIdeal.nD Cert.ReferenceIdeal.τ).loc Cert.ReferenceIdeal.main_arg5) = m ((d.tc : Thread nD τ).loc main_arg5))
    (h6 : m' ((d.tc : Thread Cert.ReferenceIdeal.nD Cert.ReferenceIdeal.τ).loc Cert.ReferenceIdeal.main_arg6) = m ((d.tc : Thread nD τ).loc main_arg6))
    (h7 : m' ((d.tc : Thread Cert.ReferenceIdeal.nD Cert.ReferenceIdeal.τ).loc Cert.ReferenceIdeal.main_arg7) = m ((d.tc : Thread nD τ).loc main_arg7))
    (h8 : m' ((d.tc : Thread Cert.ReferenceIdeal.nD Cert.ReferenceIdeal.τ).loc Cert.ReferenceIdeal.main_arg8) = m ((d.tc : Thread nD τ).loc main_arg8))
    (h9 : m' ((d.tc : Thread Cert.ReferenceIdeal.nD Cert.ReferenceIdeal.τ).loc Cert.ReferenceIdeal.main_arg9) = m ((d.tc : Thread nD τ).loc main_arg9)) :
    (Cert.ReferenceIdeal.Value.res_main_v19 m' d : S16384x1.Idx → EReal) = (show S16384x1.Idx → EReal from W7 m d (dr main_v42)) := by
  have hu (j : S16384.Idx) : (show BitVec 32 from m' ((d.tc : Thread Cert.ReferenceIdeal.nD Cert.ReferenceIdeal.τ).loc Cert.ReferenceIdeal.main_arg0) j).toNat < 1000000 :=
    (congrArg (fun f : S16384.Idx → BitVec 32 => (f j).toNat) h0).trans_lt (hb.u d j)
  have hv (j : S16384.Idx) : (show BitVec 32 from m' ((d.tc : Thread Cert.ReferenceIdeal.nD Cert.ReferenceIdeal.τ).loc Cert.ReferenceIdeal.main_arg1) j).toNat < 100000 :=
    (congrArg (fun f : S16384.Idx → BitVec 32 => (f j).toNat) h1).trans_lt (hb.v d j)
  funext j
  have ej : j = at2 (j 0) 0 := (eta2 j).trans (congrArg (at2 (j 0)) (Fin.ext (by have : (j 1).val < 1 := (j 1).isLt; show (j 1).val = 0; omega)))
  rw [ej]
  refine (RefRead.res_at m' d hu hv (j 0)).trans ((score_congr ?_ ?_ h4 h5 h6 h7 h8 h9).trans (result_at m hb d (j 0)).symm)
  · exact funext fun e => (congrFun h2 _).trans (congrArg (fun a => (show S1000000x16.Idx → EReal from m (d, dr main_arg2)) (at2 a e))
      (Fin.ext (congrArg (fun f : S16384.Idx → BitVec 32 => (f (at1 (j 0))).toNat) h0)))
  · exact funext fun e => (congrFun h3 _).trans (congrArg (fun a => (show S100000x16.Idx → EReal from m (d, dr main_arg3)) (at2 a e))
      (Fin.ext (congrArg (fun f : S16384.Idx → BitVec 32 => (f (at1 (j 0))).toNat) h1)))

/-- The algebraic claim. -/
theorem algebraic : Cert.algebraic_KernelIdeal_ReferenceIdeal := by
  intro m g m' g' hpre hargs
  have hb := bounded_ideal m hpre
  refine ⟨fun c => W7 m c (dr main_v42), (θ_run _ _ _).mono (fun r h c => h.1 c) (run_main m g hb),
    (θ_run _ _ _).mono (fun r h c => ?_) (Cert.ReferenceIdeal.Value.run m' g')⟩
  obtain ⟨h0, h1, h2, h3, h4, h5, h6, h7, h8, h9⟩ := hargs c
  exact ⟨(h c).1.trans (results_eq m hb m' c h0 h1 h2 h3 h4 h5 h6 h7 h8 h9), (h c).2⟩

end Cert.Proof.Run
-- ==== Proof.lean ====
/-
  The proof of the claim: the frames of the kernel, of its idealization and of the reference, that the idealization
  rewrites nothing, and that the idealized kernel and the reference end with equal results.
-/
module

public import proofs.«01_k».proof.Defs
public import proofs.«01_k».proof.Proof.Frames
public import proofs.«01_k».proof.Proof.Algebraic

@[expose] public section

noncomputable section

namespace Cert.Proof

/-- The kernel, under the index ranges, computes what the reference does over the reals with infinities. -/
theorem claim : Cert.Claim :=
  ⟨Cert.Kernel.Gen.facts, Cert.KernelIdeal.Gen.facts, Cert.ReferenceIdeal.Gen.facts, Cert.Pre_in_range.Gen.facts,
    Run.frame_kernel, Run.frame_ideal, Run.frame_reference, Run.frame_reference_in_range, trivial, Run.algebraic⟩

end Cert.Proof

end
